-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v50)) (v1 : (c : Dev Cert.Kernel4Ideal.nD) → Buf (Elt Ideal) ((c.tc : Thread Cert.Kernel4Ideal.nD Cert.Kernel4Ideal.τ).loc Cert.Kernel4Ideal.main_v53)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50) = v0 c
          ∧ r.2.mem ((c.tc : Thread Cert.Kernel4Ideal.nD Cert.Kernel4Ideal.τ).loc Cert.Kernel4Ideal.main_v53) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x2048x1024 : Shape := ⟨3, ![8, 2048, 1024]⟩
abbrev S8x127x4x64 : Shape := ⟨4, ![8, 127, 4, 64]⟩
abbrev S8x2048x256 : Shape := ⟨3, ![8, 2048, 256]⟩
abbrev S8x2048x48 : Shape := ⟨3, ![8, 2048, 48]⟩
abbrev S1x1024 : Shape := ⟨2, ![1, 1024]⟩
abbrev S16 : Shape := ⟨1, ![16]⟩
abbrev S_ : Shape := ⟨0, ![]⟩
abbrev S16384x1024 : Shape := ⟨2, ![16384, 1024]⟩
abbrev S8x2048x4x64 : Shape := ⟨4, ![8, 2048, 4, 64]⟩
abbrev S8x2048x4x128 : Shape := ⟨4, ![8, 2048, 4, 128]⟩
abbrev S16384x512 : Shape := ⟨2, ![16384, 512]⟩
abbrev S16384x48 : Shape := ⟨2, ![16384, 48]⟩
abbrev S16384x128 : Shape := ⟨2, ![16384, 128]⟩
abbrev S2048x128 : Shape := ⟨2, ![2048, 128]⟩
abbrev S2560x128 : Shape := ⟨2, ![2560, 128]⟩
abbrev S128x128 : Shape := ⟨2, ![128, 128]⟩
abbrev S4x8x4x128 : Shape := ⟨4, ![4, 8, 4, 128]⟩
abbrev S4x8x4x1 : Shape := ⟨4, ![4, 8, 4, 1]⟩
abbrev S4x1x4x1 : Shape := ⟨4, ![4, 1, 4, 1]⟩
abbrev S4x8x8x128 : Shape := ⟨4, ![4, 8, 8, 128]⟩
abbrev S4x4x256x128 : Shape := ⟨4, ![4, 4, 256, 128]⟩
abbrev S4x4x256x1 : Shape := ⟨4, ![4, 4, 256, 1]⟩
abbrev S4x4x1x1 : Shape := ⟨4, ![4, 4, 1, 1]⟩
abbrev S4x1024x128 : Shape := ⟨3, ![4, 1024, 128]⟩
abbrev S256x128 : Shape := ⟨2, ![256, 128]⟩
abbrev S32x128 : Shape := ⟨2, ![32, 128]⟩
abbrev S128x64 : Shape := ⟨2, ![128, 64]⟩
abbrev S1x1x128x64 : Shape := ⟨4, ![1, 1, 128, 64]⟩
abbrev S8x4x128x64 : Shape := ⟨4, ![8, 4, 128, 64]⟩
abbrev S8x128x4x64 : Shape := ⟨4, ![8, 128, 4, 64]⟩
abbrev S8x4x128x128 : Shape := ⟨4, ![8, 4, 128, 128]⟩
abbrev S4096x128 : Shape := ⟨2, ![4096, 128]⟩
abbrev S8x4x64x128 : Shape := ⟨4, ![8, 4, 64, 128]⟩
abbrev S2048x256 : Shape := ⟨2, ![2048, 256]⟩
abbrev S64x128 : Shape := ⟨2, ![64, 128]⟩
abbrev S1x8x8x128 : Shape := ⟨4, ![1, 8, 8, 128]⟩
abbrev S1x1024x128 : Shape := ⟨3, ![1, 1024, 128]⟩
abbrev S1x256 : Shape := ⟨2, ![1, 256]⟩
abbrev S8x64x256 : Shape := ⟨3, ![8, 64, 256]⟩
abbrev S10x64x256 : Shape := ⟨3, ![10, 64, 256]⟩
abbrev S8x128x256 : Shape := ⟨3, ![8, 128, 256]⟩
abbrev S1 : Shape := ⟨1, ![1]⟩
abbrev S1x2048x128 : Shape := ⟨3, ![1, 2048, 128]⟩
abbrev S1x1x1 : Shape := ⟨3, ![1, 1, 1]⟩
abbrev S128x2048 : Shape := ⟨2, ![128, 2048]⟩
abbrev S64x2048 : Shape := ⟨2, ![64, 2048]⟩
abbrev S64x256 : Shape := ⟨2, ![64, 256]⟩
abbrev S1x64x256 : Shape := ⟨3, ![1, 64, 256]⟩
abbrev S512x128 : Shape := ⟨2, ![512, 128]⟩
abbrev S256x256 : Shape := ⟨2, ![256, 256]⟩
abbrev S256x1024 : Shape := ⟨2, ![256, 1024]⟩
abbrev S1x1x8x128 : Shape := ⟨4, ![1, 1, 8, 128]⟩
abbrev S8x128 : Shape := ⟨2, ![8, 128]⟩
abbrev S1x256x128 : Shape := ⟨3, ![1, 256, 128]⟩
abbrev S1x128 : Shape := ⟨2, ![1, 128]⟩
abbrev S1024x128 : Shape := ⟨2, ![1024, 128]⟩
abbrev S128x256 : Shape := ⟨2, ![128, 256]⟩
abbrev S1x128x256 : Shape := ⟨3, ![1, 128, 256]⟩
abbrev S16x256 : Shape := ⟨2, ![16, 256]⟩
abbrev S16x1024 : Shape := ⟨2, ![16, 1024]⟩
abbrev S16x128 : Shape := ⟨2, ![16, 128]⟩
abbrev S8x1024 : Shape := ⟨2, ![8, 1024]⟩
abbrev S64x1024 : Shape := ⟨2, ![64, 1024]⟩
abbrev S32x8x1024 : Shape := ⟨3, ![32, 8, 1024]⟩
abbrev S1024 : Shape := ⟨1, ![1024]⟩
abbrev S112x1024 : Shape := ⟨2, ![112, 1024]⟩
abbrev S128x1024 : Shape := ⟨2, ![128, 1024]⟩
abbrev S32x256 : Shape := ⟨2, ![32, 256]⟩
abbrev S1x1x256 : Shape := ⟨3, ![1, 1, 256]⟩
abbrev S256 : Shape := ⟨1, ![256]⟩
abbrev S32x1024 : Shape := ⟨2, ![32, 1024]⟩
abbrev S96x1024 : Shape := ⟨2, ![96, 1024]⟩
abbrev S48x256 : Shape := ⟨2, ![48, 256]⟩
abbrev S48x1024 : Shape := ⟨2, ![48, 1024]⟩
abbrev S48x128 : Shape := ⟨2, ![48, 128]⟩
abbrev S80x1024 : Shape := ⟨2, ![80, 1024]⟩
abbrev S80x256 : Shape := ⟨2, ![80, 256]⟩
abbrev S80x128 : Shape := ⟨2, ![80, 128]⟩
abbrev S4x256 : Shape := ⟨2, ![4, 256]⟩
abbrev S1x4x256 : Shape := ⟨3, ![1, 4, 256]⟩
abbrev S96x256 : Shape := ⟨2, ![96, 256]⟩
abbrev S96x128 : Shape := ⟨2, ![96, 128]⟩
abbrev S112x256 : Shape := ⟨2, ![112, 256]⟩
abbrev S112x128 : Shape := ⟨2, ![112, 128]⟩

abbrev nBuf : Space → Nat
  | .hbm => 423
  | .vmem => 34
  | .smem => 1
  | _ => 0

abbrev hbmTy0_0 (i : Nat) : BufTy := match i % 128 with
  | 0 => ⟨S8x2048x1024, .f32⟩
  | 1 => ⟨S8x127x4x64, .f32⟩
  | 2 => ⟨S8x127x4x64, .f32⟩
  | 3 => ⟨S8x2048x256, .f32⟩
  | 4 => ⟨S8x2048x256, .f32⟩
  | 5 => ⟨S8x2048x256, .f32⟩
  | 6 => ⟨S8x2048x256, .f32⟩
  | 7 => ⟨S8x2048x48, .f32⟩
  | 8 => ⟨S8x2048x1024, .f32⟩
  | 9 => ⟨S1x1024, .f32⟩
  | 10 => ⟨S16, .f32⟩
  | 11 => ⟨S_, .f32⟩
  | 12 => ⟨S8x2048x1024, .f32⟩
  | 13 => ⟨S8x2048x1024, .f32⟩
  | 14 => ⟨S16384x1024, .f32⟩
  | 15 => ⟨S16384x1024, .bf16⟩
  | 16 => ⟨S16384x1024, .f32⟩
  | 17 => ⟨S8x2048x4x64, .f32⟩
  | 18 => ⟨S8x2048x4x64, .f32⟩
  | 19 => ⟨S8x2048x4x128, .f32⟩
  | 20 => ⟨S16384x512, .f32⟩
  | 21 => ⟨S16384x512, .bf16⟩
  | 22 => ⟨S8x2048x4x64, .f32⟩
  | 23 => ⟨S8x2048x4x64, .f32⟩
  | 24 => ⟨S8x2048x4x128, .f32⟩
  | 25 => ⟨S16384x512, .f32⟩
  | 26 => ⟨S16384x512, .bf16⟩
  | 27 => ⟨S16384x48, .f32⟩
  | 28 => ⟨S_, .i32⟩
  | 29 => ⟨S_, .f32⟩
  | 30 => ⟨S16384x128, .f32⟩
  | 31 => ⟨S2048x128, .i32⟩
  | 32 => ⟨S2048x128, .i32⟩
  | 33 => ⟨S_, .i32⟩
  | 34 => ⟨S2048x128, .i32⟩
  | 35 => ⟨S2048x128, .i32⟩
  | 36 => ⟨S_, .f32⟩
  | 37 => ⟨S2048x128, .f32⟩
  | 38 => ⟨S_, .i32⟩
  | 39 => ⟨S2048x128, .i32⟩
  | 40 => ⟨S2048x128, .i32⟩
  | 41 => ⟨S2048x128, .i1⟩
  | 42 => ⟨S_, .f32⟩
  | 43 => ⟨S_, .f32⟩
  | 44 => ⟨S2048x128, .f32⟩
  | 45 => ⟨S2048x128, .f32⟩
  | 46 => ⟨S_, .i32⟩
  | 47 => ⟨S2048x128, .i32⟩
  | 48 => ⟨S2048x128, .i1⟩
  | 49 => ⟨S_, .i32⟩
  | 50 => ⟨S2048x128, .i32⟩
  | 51 => ⟨S2048x128, .i1⟩
  | 52 => ⟨S2048x128, .i1⟩
  | 53 => ⟨S_, .i32⟩
  | 54 => ⟨S2048x128, .i32⟩
  | 55 => ⟨S2048x128, .i32⟩
  | 56 => ⟨S2048x128, .f32⟩
  | 57 => ⟨S2048x128, .f32⟩
  | 58 => ⟨S_, .i32⟩
  | 59 => ⟨S2048x128, .i32⟩
  | 60 => ⟨S2048x128, .i1⟩
  | 61 => ⟨S_, .i32⟩
  | 62 => ⟨S2048x128, .i32⟩
  | 63 => ⟨S2048x128, .i1⟩
  | 64 => ⟨S2048x128, .i1⟩
  | 65 => ⟨S_, .i32⟩
  | 66 => ⟨S2048x128, .i32⟩
  | 67 => ⟨S2048x128, .i32⟩
  | 68 => ⟨S2048x128, .i32⟩
  | 69 => ⟨S2048x128, .f32⟩
  | 70 => ⟨S2048x128, .f32⟩
  | 71 => ⟨S2048x128, .i32⟩
  | 72 => ⟨S_, .i32⟩
  | 73 => ⟨S2048x128, .i32⟩
  | 74 => ⟨S2048x128, .i1⟩
  | 75 => ⟨S_, .i32⟩
  | 76 => ⟨S2048x128, .i32⟩
  | 77 => ⟨S2048x128, .i1⟩
  | 78 => ⟨S2048x128, .i1⟩
  | 79 => ⟨S_, .f32⟩
  | 80 => ⟨S_, .f32⟩
  | 81 => ⟨S2048x128, .f32⟩
  | 82 => ⟨S2048x128, .f32⟩
  | 83 => ⟨S2560x128, .i32⟩
  | 84 => ⟨S2560x128, .i32⟩
  | 85 => ⟨S_, .i32⟩
  | 86 => ⟨S2560x128, .i32⟩
  | 87 => ⟨S2560x128, .i1⟩
  | 88 => ⟨S_, .i32⟩
  | 89 => ⟨S2560x128, .i32⟩
  | 90 => ⟨S2560x128, .i1⟩
  | 91 => ⟨S_, .f32⟩
  | 92 => ⟨S_, .f32⟩
  | 93 => ⟨S2560x128, .f32⟩
  | 94 => ⟨S2560x128, .f32⟩
  | 95 => ⟨S2560x128, .f32⟩
  | 96 => ⟨S_, .i32⟩
  | 97 => ⟨S2560x128, .i32⟩
  | 98 => ⟨S2560x128, .i32⟩
  | 99 => ⟨S2560x128, .i32⟩
  | 100 => ⟨S_, .i32⟩
  | 101 => ⟨S2560x128, .i32⟩
  | 102 => ⟨S2560x128, .i32⟩
  | 103 => ⟨S_, .f32⟩
  | 104 => ⟨S2560x128, .f32⟩
  | 105 => ⟨S_, .i32⟩
  | 106 => ⟨S2560x128, .i32⟩
  | 107 => ⟨S2560x128, .i1⟩
  | 108 => ⟨S_, .i32⟩
  | 109 => ⟨S2560x128, .i32⟩
  | 110 => ⟨S2560x128, .i1⟩
  | 111 => ⟨S2560x128, .i1⟩
  | 112 => ⟨S_, .i32⟩
  | 113 => ⟨S2560x128, .i32⟩
  | 114 => ⟨S2560x128, .i32⟩
  | 115 => ⟨S2560x128, .f32⟩
  | 116 => ⟨S2560x128, .f32⟩
  | 117 => ⟨S_, .i32⟩
  | 118 => ⟨S2560x128, .i32⟩
  | 119 => ⟨S2560x128, .i1⟩
  | 120 => ⟨S_, .i32⟩
  | 121 => ⟨S2560x128, .i32⟩
  | 122 => ⟨S2560x128, .i1⟩
  | 123 => ⟨S2560x128, .i1⟩
  | 124 => ⟨S_, .i32⟩
  | 125 => ⟨S2560x128, .i32⟩
  | 126 => ⟨S2560x128, .i32⟩
  | 127 => ⟨S2560x128, .i32⟩
  | _ => ⟨S8x2048x1024, .f32⟩

abbrev hbmTy0_1 (i : Nat) : BufTy := match i % 128 with
  | 0 => ⟨S2560x128, .f32⟩
  | 1 => ⟨S2560x128, .f32⟩
  | 2 => ⟨S2560x128, .i32⟩
  | 3 => ⟨S_, .i32⟩
  | 4 => ⟨S2560x128, .i32⟩
  | 5 => ⟨S2560x128, .i1⟩
  | 6 => ⟨S_, .i32⟩
  | 7 => ⟨S2560x128, .i32⟩
  | 8 => ⟨S2560x128, .i1⟩
  | 9 => ⟨S2560x128, .i1⟩
  | 10 => ⟨S_, .f32⟩
  | 11 => ⟨S_, .f32⟩
  | 12 => ⟨S2560x128, .f32⟩
  | 13 => ⟨S2560x128, .f32⟩
  | 14 => ⟨S2560x128, .f32⟩
  | 15 => ⟨S2560x128, .f32⟩
  | 16 => ⟨S128x128, .i32⟩
  | 17 => ⟨S128x128, .i32⟩
  | 18 => ⟨S_, .i32⟩
  | 19 => ⟨S128x128, .i32⟩
  | 20 => ⟨S128x128, .i32⟩
  | 21 => ⟨S_, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S128x128, .i32⟩
  | 28 => ⟨S_, .i32⟩
  | 29 => ⟨S128x128, .i32⟩
  | 30 => ⟨S128x128, .i32⟩
  | 31 => ⟨S_, .f32⟩
  | 32 => ⟨S128x128, .f32⟩
  | 33 => ⟨S_, .i32⟩
  | 34 => ⟨S128x128, .i32⟩
  | 35 => ⟨S128x128, .i1⟩
  | 36 => ⟨S_, .i32⟩
  | 37 => ⟨S128x128, .i32⟩
  | 38 => ⟨S128x128, .i1⟩
  | 39 => ⟨S128x128, .i1⟩
  | 40 => ⟨S_, .i32⟩
  | 41 => ⟨S128x128, .i32⟩
  | 42 => ⟨S128x128, .i32⟩
  | 43 => ⟨S128x128, .f32⟩
  | 44 => ⟨S128x128, .f32⟩
  | 45 => ⟨S_, .i32⟩
  | 46 => ⟨S128x128, .i32⟩
  | 47 => ⟨S128x128, .i1⟩
  | 48 => ⟨S_, .i32⟩
  | 49 => ⟨S128x128, .i32⟩
  | 50 => ⟨S128x128, .i1⟩
  | 51 => ⟨S128x128, .i1⟩
  | 52 => ⟨S_, .i32⟩
  | 53 => ⟨S128x128, .i32⟩
  | 54 => ⟨S128x128, .i32⟩
  | 55 => ⟨S128x128, .i32⟩
  | 56 => ⟨S128x128, .f32⟩
  | 57 => ⟨S128x128, .f32⟩
  | 58 => ⟨S_, .i32⟩
  | 59 => ⟨S128x128, .i32⟩
  | 60 => ⟨S128x128, .i1⟩
  | 61 => ⟨S_, .i32⟩
  | 62 => ⟨S128x128, .i32⟩
  | 63 => ⟨S128x128, .i1⟩
  | 64 => ⟨S128x128, .i1⟩
  | 65 => ⟨S_, .f32⟩
  | 66 => ⟨S_, .f32⟩
  | 67 => ⟨S128x128, .f32⟩
  | 68 => ⟨S128x128, .f32⟩
  | 69 => ⟨S_, .f32⟩
  | 70 => ⟨S16, .f32⟩
  | 71 => ⟨S16, .f32⟩
  | 72 => ⟨S4x8x4x128, .i32⟩
  | 73 => ⟨S4x8x4x1, .i32⟩
  | 74 => ⟨S4x8x4x1, .f32⟩
  | 75 => ⟨S_, .f32⟩
  | 76 => ⟨S4x8x4x128, .f32⟩
  | 77 => ⟨S16, .bf16⟩
  | 78 => ⟨S16, .f32⟩
  | 79 => ⟨S16, .f32⟩
  | 80 => ⟨S16, .bf16⟩
  | 81 => ⟨S16, .f32⟩
  | 82 => ⟨S16, .f32⟩
  | 83 => ⟨S16, .bf16⟩
  | 84 => ⟨S16, .f32⟩
  | 85 => ⟨S16, .f32⟩
  | 86 => ⟨S16, .bf16⟩
  | 87 => ⟨S16, .f32⟩
  | 88 => ⟨S16, .f32⟩
  | 89 => ⟨S_, .i32⟩
  | 90 => ⟨S4x8x4x128, .i32⟩
  | 91 => ⟨S4x8x4x128, .i1⟩
  | 92 => ⟨S_, .i32⟩
  | 93 => ⟨S4x8x4x128, .i32⟩
  | 94 => ⟨S4x8x4x128, .i1⟩
  | 95 => ⟨S4x8x4x128, .i1⟩
  | 96 => ⟨S4x1x4x1, .f32⟩
  | 97 => ⟨S4x8x4x128, .f32⟩
  | 98 => ⟨S4x8x4x128, .f32⟩
  | 99 => ⟨S_, .i32⟩
  | 100 => ⟨S4x8x4x128, .i32⟩
  | 101 => ⟨S4x8x4x128, .i1⟩
  | 102 => ⟨S_, .i32⟩
  | 103 => ⟨S4x8x4x128, .i32⟩
  | 104 => ⟨S4x8x4x128, .i1⟩
  | 105 => ⟨S4x8x4x128, .i1⟩
  | 106 => ⟨S4x1x4x1, .f32⟩
  | 107 => ⟨S4x8x4x128, .f32⟩
  | 108 => ⟨S4x8x4x128, .f32⟩
  | 109 => ⟨S_, .i32⟩
  | 110 => ⟨S4x8x4x128, .i32⟩
  | 111 => ⟨S4x8x4x128, .i1⟩
  | 112 => ⟨S_, .i32⟩
  | 113 => ⟨S4x8x4x128, .i32⟩
  | 114 => ⟨S4x8x4x128, .i1⟩
  | 115 => ⟨S4x8x4x128, .i1⟩
  | 116 => ⟨S4x1x4x1, .f32⟩
  | 117 => ⟨S4x8x4x128, .f32⟩
  | 118 => ⟨S4x8x4x128, .f32⟩
  | 119 => ⟨S_, .i32⟩
  | 120 => ⟨S4x8x4x128, .i32⟩
  | 121 => ⟨S4x8x4x128, .i1⟩
  | 122 => ⟨S_, .i32⟩
  | 123 => ⟨S4x8x4x128, .i32⟩
  | 124 => ⟨S4x8x4x128, .i1⟩
  | 125 => ⟨S4x8x4x128, .i1⟩
  | 126 => ⟨S4x1x4x1, .f32⟩
  | 127 => ⟨S4x8x4x128, .f32⟩
  | _ => ⟨S8x2048x1024, .f32⟩

abbrev hbmTy0_2 (i : Nat) : BufTy := match i % 128 with
  | 0 => ⟨S4x8x4x128, .f32⟩
  | 1 => ⟨S_, .i32⟩
  | 2 => ⟨S4x8x4x128, .i32⟩
  | 3 => ⟨S4x8x4x128, .i1⟩
  | 4 => ⟨S_, .f32⟩
  | 5 => ⟨S_, .f32⟩
  | 6 => ⟨S4x8x4x128, .f32⟩
  | 7 => ⟨S4x8x4x128, .f32⟩
  | 8 => ⟨S4x1x4x1, .f32⟩
  | 9 => ⟨S4x1x4x1, .f32⟩
  | 10 => ⟨S_, .f32⟩
  | 11 => ⟨S4x8x4x1, .f32⟩
  | 12 => ⟨S4x8x4x1, .f32⟩
  | 13 => ⟨S4x8x4x1, .f32⟩
  | 14 => ⟨S4x8x4x1, .f32⟩
  | 15 => ⟨S4x8x4x1, .bf16⟩
  | 16 => ⟨S4x8x4x1, .f32⟩
  | 17 => ⟨S4x8x4x1, .f32⟩
  | 18 => ⟨S4x8x4x1, .bf16⟩
  | 19 => ⟨S4x8x4x1, .f32⟩
  | 20 => ⟨S4x8x4x1, .f32⟩
  | 21 => ⟨S4x8x4x1, .bf16⟩
  | 22 => ⟨S4x8x4x1, .f32⟩
  | 23 => ⟨S4x8x4x1, .f32⟩
  | 24 => ⟨S4x8x4x1, .bf16⟩
  | 25 => ⟨S4x8x4x1, .f32⟩
  | 26 => ⟨S4x8x4x1, .f32⟩
  | 27 => ⟨S_, .i32⟩
  | 28 => ⟨S4x8x4x128, .i32⟩
  | 29 => ⟨S4x8x4x128, .i1⟩
  | 30 => ⟨S4x8x4x128, .f32⟩
  | 31 => ⟨S4x8x4x128, .f32⟩
  | 32 => ⟨S_, .i32⟩
  | 33 => ⟨S4x8x4x128, .i32⟩
  | 34 => ⟨S4x8x4x128, .i1⟩
  | 35 => ⟨S4x8x4x128, .f32⟩
  | 36 => ⟨S4x8x4x128, .f32⟩
  | 37 => ⟨S_, .i32⟩
  | 38 => ⟨S4x8x4x128, .i32⟩
  | 39 => ⟨S4x8x4x128, .i1⟩
  | 40 => ⟨S4x8x4x128, .f32⟩
  | 41 => ⟨S4x8x4x128, .f32⟩
  | 42 => ⟨S_, .i32⟩
  | 43 => ⟨S4x8x4x128, .i32⟩
  | 44 => ⟨S4x8x4x128, .i1⟩
  | 45 => ⟨S4x8x4x128, .f32⟩
  | 46 => ⟨S4x8x4x128, .f32⟩
  | 47 => ⟨S_, .f32⟩
  | 48 => ⟨S4x8x4x128, .f32⟩
  | 49 => ⟨S4x8x8x128, .f32⟩
  | 50 => ⟨S4x4x256x128, .i32⟩
  | 51 => ⟨S4x4x256x1, .i32⟩
  | 52 => ⟨S4x4x256x1, .f32⟩
  | 53 => ⟨S_, .f32⟩
  | 54 => ⟨S4x4x256x128, .f32⟩
  | 55 => ⟨S4x4x1x1, .f32⟩
  | 56 => ⟨S4x4x1x1, .f32⟩
  | 57 => ⟨S4x4x256x1, .f32⟩
  | 58 => ⟨S4x4x256x1, .f32⟩
  | 59 => ⟨S4x4x256x1, .bf16⟩
  | 60 => ⟨S4x4x256x1, .f32⟩
  | 61 => ⟨S4x4x256x1, .f32⟩
  | 62 => ⟨S4x4x256x1, .bf16⟩
  | 63 => ⟨S4x4x256x1, .f32⟩
  | 64 => ⟨S4x4x256x1, .f32⟩
  | 65 => ⟨S4x4x256x1, .bf16⟩
  | 66 => ⟨S4x4x256x1, .f32⟩
  | 67 => ⟨S4x4x256x1, .f32⟩
  | 68 => ⟨S_, .i32⟩
  | 69 => ⟨S4x4x256x128, .i32⟩
  | 70 => ⟨S4x4x256x128, .i1⟩
  | 71 => ⟨S4x4x256x128, .f32⟩
  | 72 => ⟨S4x4x256x128, .f32⟩
  | 73 => ⟨S_, .i32⟩
  | 74 => ⟨S4x4x256x128, .i32⟩
  | 75 => ⟨S4x4x256x128, .i1⟩
  | 76 => ⟨S4x4x256x128, .f32⟩
  | 77 => ⟨S4x4x256x128, .f32⟩
  | 78 => ⟨S_, .i32⟩
  | 79 => ⟨S4x4x256x128, .i32⟩
  | 80 => ⟨S4x4x256x128, .i1⟩
  | 81 => ⟨S4x4x256x128, .f32⟩
  | 82 => ⟨S4x4x256x128, .f32⟩
  | 83 => ⟨S4x1024x128, .f32⟩
  | 84 => ⟨S256x128, .i32⟩
  | 85 => ⟨S256x128, .i32⟩
  | 86 => ⟨S_, .i32⟩
  | 87 => ⟨S256x128, .i32⟩
  | 88 => ⟨S256x128, .i32⟩
  | 89 => ⟨S256x128, .i1⟩
  | 90 => ⟨S_, .f32⟩
  | 91 => ⟨S_, .f32⟩
  | 92 => ⟨S256x128, .f32⟩
  | 93 => ⟨S256x128, .f32⟩
  | 94 => ⟨S256x128, .f32⟩
  | 95 => ⟨S128x128, .i32⟩
  | 96 => ⟨S_, .i32⟩
  | 97 => ⟨S128x128, .i32⟩
  | 98 => ⟨S128x128, .i32⟩
  | 99 => ⟨S128x128, .i32⟩
  | 100 => ⟨S_, .i32⟩
  | 101 => ⟨S128x128, .i32⟩
  | 102 => ⟨S128x128, .i32⟩
  | 103 => ⟨S_, .i32⟩
  | 104 => ⟨S128x128, .i32⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i32⟩
  | 111 => ⟨S128x128, .i32⟩
  | 112 => ⟨S_, .i32⟩
  | 113 => ⟨S128x128, .i32⟩
  | 114 => ⟨S128x128, .i32⟩
  | 115 => ⟨S128x128, .i32⟩
  | 116 => ⟨S_, .i32⟩
  | 117 => ⟨S128x128, .i32⟩
  | 118 => ⟨S128x128, .i1⟩
  | 119 => ⟨S_, .i32⟩
  | 120 => ⟨S128x128, .i32⟩
  | 121 => ⟨S128x128, .i1⟩
  | 122 => ⟨S128x128, .i1⟩
  | 123 => ⟨S128x128, .f32⟩
  | 124 => ⟨S_, .f32⟩
  | 125 => ⟨S128x128, .f32⟩
  | 126 => ⟨S128x128, .f32⟩
  | 127 => ⟨S_, .f32⟩
  | _ => ⟨S8x2048x1024, .f32⟩

abbrev hbmTy0_3 (i : Nat) : BufTy := match i % 128 with
  | 0 => ⟨S_, .f32⟩
  | 1 => ⟨S128x128, .f32⟩
  | 2 => ⟨S128x128, .f32⟩
  | 3 => ⟨S32x128, .i32⟩
  | 4 => ⟨S32x128, .i32⟩
  | 5 => ⟨S_, .i32⟩
  | 6 => ⟨S32x128, .i32⟩
  | 7 => ⟨S32x128, .i32⟩
  | 8 => ⟨S32x128, .i1⟩
  | 9 => ⟨S_, .f32⟩
  | 10 => ⟨S_, .f32⟩
  | 11 => ⟨S32x128, .f32⟩
  | 12 => ⟨S32x128, .f32⟩
  | 13 => ⟨S32x128, .f32⟩
  | 14 => ⟨S2048x128, .bf16⟩
  | 15 => ⟨S2560x128, .bf16⟩
  | 16 => ⟨S128x128, .bf16⟩
  | 17 => ⟨S4x1024x128, .bf16⟩
  | 18 => ⟨S256x128, .bf16⟩
  | 19 => ⟨S128x128, .bf16⟩
  | 20 => ⟨S32x128, .bf16⟩
  | 21 => ⟨S128x64, .bf16⟩
  | 22 => ⟨S1x1x128x64, .bf16⟩
  | 23 => ⟨S8x4x128x64, .bf16⟩
  | 24 => ⟨S_, .i32⟩
  | 25 => ⟨S_, .f32⟩
  | 26 => ⟨S8x128x4x64, .f32⟩
  | 27 => ⟨S8x4x128x64, .f32⟩
  | 28 => ⟨S8x4x128x64, .bf16⟩
  | 29 => ⟨S8x4x128x128, .bf16⟩
  | 30 => ⟨S4096x128, .bf16⟩
  | 31 => ⟨S_, .i32⟩
  | 32 => ⟨S_, .f32⟩
  | 33 => ⟨S8x128x4x64, .f32⟩
  | 34 => ⟨S8x4x128x64, .f32⟩
  | 35 => ⟨S8x4x64x128, .f32⟩
  | 36 => ⟨S2048x128, .f32⟩
  | 37 => ⟨S2048x128, .bf16⟩
  | 38 => ⟨S16384x1024, .bf16⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S128x128, .bf16⟩
  | .local _ .vmem, ⟨13, _⟩ => ⟨S128x128, .bf16⟩
  | .local _ .vmem, ⟨14, _⟩ => ⟨S64x128, .bf16⟩
  | .local _ .vmem, ⟨15, _⟩ => ⟨S64x128, .bf16⟩
  | .local _ .vmem, ⟨16, _⟩ => ⟨S2048x128, .bf16⟩
  | .local _ .vmem, ⟨17, _⟩ => ⟨S2560x128, .bf16⟩
  | .local _ .vmem, ⟨18, _⟩ => ⟨S1x8x8x128, .f32⟩
  | .local _ .vmem, ⟨19, _⟩ => ⟨S1x8x8x128, .f32⟩
  | .local _ .vmem, ⟨20, _⟩ => ⟨S1x1024x128, .bf16⟩
  | .local _ .vmem, ⟨21, _⟩ => ⟨S1x1024x128, .bf16⟩
  | .local _ .vmem, ⟨22, _⟩ => ⟨S256x128, .bf16⟩
  | .local _ .vmem, ⟨23, _⟩ => ⟨S128x128, .bf16⟩
  | .local _ .vmem, ⟨24, _⟩ => ⟨S32x128, .bf16⟩
  | .local _ .vmem, ⟨25, _⟩ => ⟨S1x256, .f32⟩
  | .local _ .vmem, ⟨26, _⟩ => ⟨S1x256, .f32⟩
  | .local _ .vmem, ⟨27, _⟩ => ⟨S2048x256, .bf16⟩
  | .local _ .vmem, ⟨28, _⟩ => ⟨S2048x256, .bf16⟩
  | .local _ .vmem, ⟨29, _⟩ => ⟨S2048x128, .bf16⟩
  | .local _ .vmem, ⟨30, _⟩ => ⟨S8x64x256, .bf16⟩
  | .local _ .vmem, ⟨31, _⟩ => ⟨S2560x128, .bf16⟩
  | .local _ .vmem, ⟨32, _⟩ => ⟨S10x64x256, .bf16⟩
  | .local _ .vmem, ⟨33, _⟩ => ⟨S8x128x256, .f32⟩
  | .local _ .smem, ⟨0, _⟩ => ⟨S1, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_call4_v0 : Ref sig .tc := ⟨.hbm, 80, rfl⟩
abbrev main_call4_v1 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_14 : Ref sig .tc := ⟨.hbm, 85, rfl⟩
abbrev main_v54 : Ref sig .tc := ⟨.hbm, 86, rfl⟩
abbrev main_v55 : Ref sig .tc := ⟨.hbm, 87, rfl⟩
abbrev main_c_15 : Ref sig .tc := ⟨.hbm, 88, rfl⟩
abbrev main_v56 : Ref sig .tc := ⟨.hbm, 89, rfl⟩
abbrev main_v57 : Ref sig .tc := ⟨.hbm, 90, rfl⟩
abbrev main_cst_16 : Ref sig .tc := ⟨.hbm, 91, rfl⟩
abbrev main_cst_17 : Ref sig .tc := ⟨.hbm, 92, rfl⟩
abbrev main_call5_v0 : Ref sig .tc := ⟨.hbm, 93, rfl⟩
abbrev main_call5_v1 : Ref sig .tc := ⟨.hbm, 94, rfl⟩
abbrev main_v58 : Ref sig .tc := ⟨.hbm, 95, rfl⟩
abbrev main_c_18 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_19 : Ref sig .tc := ⟨.hbm, 100, rfl⟩
abbrev main_v62 : Ref sig .tc := ⟨.hbm, 101, rfl⟩
abbrev main_v63 : Ref sig .tc := ⟨.hbm, 102, rfl⟩
abbrev main_cst_20 : Ref sig .tc := ⟨.hbm, 103, rfl⟩
abbrev main_v64 : Ref sig .tc := ⟨.hbm, 104, rfl⟩
abbrev main_c_21 : Ref sig .tc := ⟨.hbm, 105, rfl⟩
abbrev main_v65 : Ref sig .tc := ⟨.hbm, 106, rfl⟩
abbrev main_v66 : Ref sig .tc := ⟨.hbm, 107, rfl⟩
abbrev main_c_22 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_23 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_24 : Ref sig .tc := ⟨.hbm, 117, rfl⟩
abbrev main_v74 : Ref sig .tc := ⟨.hbm, 118, rfl⟩
abbrev main_v75 : Ref sig .tc := ⟨.hbm, 119, rfl⟩
abbrev main_c_25 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_26 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_27 : Ref sig .tc := ⟨.hbm, 131, rfl⟩
abbrev main_v85 : Ref sig .tc := ⟨.hbm, 132, rfl⟩
abbrev main_v86 : Ref sig .tc := ⟨.hbm, 133, rfl⟩
abbrev main_c_28 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_29 : Ref sig .tc := ⟨.hbm, 138, rfl⟩
abbrev main_call8_v0 : Ref sig .tc := ⟨.hbm, 139, rfl⟩
abbrev main_call8_v1 : Ref sig .tc := ⟨.hbm, 140, rfl⟩
abbrev main_v90 : Ref sig .tc := ⟨.hbm, 141, rfl⟩
abbrev main_call9_v0 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_c_30 : Ref sig .tc := ⟨.hbm, 146, rfl⟩
abbrev main_v94 : Ref sig .tc := ⟨.hbm, 147, rfl⟩
abbrev main_v95 : Ref sig .tc := ⟨.hbm, 148, rfl⟩
abbrev main_c_31 : Ref sig .tc := ⟨.hbm, 149, rfl⟩
abbrev main_v96 : Ref sig .tc := ⟨.hbm, 150, rfl⟩
abbrev main_v97 : Ref sig .tc := ⟨.hbm, 151, rfl⟩
abbrev main_c_32 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_c_33 : Ref sig .tc := ⟨.hbm, 156, rfl⟩
abbrev main_v101 : Ref sig .tc := ⟨.hbm, 157, rfl⟩
abbrev main_v102 : Ref sig .tc := ⟨.hbm, 158, rfl⟩
abbrev main_cst_34 : Ref sig .tc := ⟨.hbm, 159, rfl⟩
abbrev main_v103 : Ref sig .tc := ⟨.hbm, 160, rfl⟩
abbrev main_c_35 : Ref sig .tc := ⟨.hbm, 161, rfl⟩
abbrev main_v104 : Ref sig .tc := ⟨.hbm, 162, rfl⟩
abbrev main_v105 : Ref sig .tc := ⟨.hbm, 163, rfl⟩
abbrev main_c_36 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_c_37 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_38 : Ref sig .tc := ⟨.hbm, 173, rfl⟩
abbrev main_v113 : Ref sig .tc := ⟨.hbm, 174, rfl⟩
abbrev main_v114 : Ref sig .tc := ⟨.hbm, 175, rfl⟩
abbrev main_c_39 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_40 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_c_41 : Ref sig .tc := ⟨.hbm, 186, rfl⟩
abbrev main_v123 : Ref sig .tc := ⟨.hbm, 187, rfl⟩
abbrev main_v124 : Ref sig .tc := ⟨.hbm, 188, rfl⟩
abbrev main_c_42 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_43 : Ref sig .tc := ⟨.hbm, 193, rfl⟩
abbrev main_call12_v0 : Ref sig .tc := ⟨.hbm, 194, rfl⟩
abbrev main_call12_v1 : Ref sig .tc := ⟨.hbm, 195, rfl⟩
abbrev main_v128 : Ref sig .tc := ⟨.hbm, 196, rfl⟩
abbrev main_cst_44 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_45 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_c_46 : Ref sig .tc := ⟨.hbm, 217, rfl⟩
abbrev main_v147 : Ref sig .tc := ⟨.hbm, 218, rfl⟩
abbrev main_v148 : Ref sig .tc := ⟨.hbm, 219, rfl⟩
abbrev main_c_47 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_call13_v0 : Ref sig .tc := ⟨.hbm, 225, rfl⟩
abbrev main_v153 : Ref sig .tc := ⟨.hbm, 226, rfl⟩
abbrev main_c_48 : Ref sig .tc := ⟨.hbm, 227, rfl⟩
abbrev main_v154 : Ref sig .tc := ⟨.hbm, 228, rfl⟩
abbrev main_v155 : Ref sig .tc := ⟨.hbm, 229, rfl⟩
abbrev main_c_49 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_call14_v0 : Ref sig .tc := ⟨.hbm, 235, rfl⟩
abbrev main_v160 : Ref sig .tc := ⟨.hbm, 236, rfl⟩
abbrev main_c_50 : Ref sig .tc := ⟨.hbm, 237, rfl⟩
abbrev main_v161 : Ref sig .tc := ⟨.hbm, 238, rfl⟩
abbrev main_v162 : Ref sig .tc := ⟨.hbm, 239, rfl⟩
abbrev main_c_51 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_call15_v0 : Ref sig .tc := ⟨.hbm, 245, rfl⟩
abbrev main_v167 : Ref sig .tc := ⟨.hbm, 246, rfl⟩
abbrev main_c_52 : Ref sig .tc := ⟨.hbm, 247, rfl⟩
abbrev main_v168 : Ref sig .tc := ⟨.hbm, 248, rfl⟩
abbrev main_v169 : Ref sig .tc := ⟨.hbm, 249, rfl⟩
abbrev main_c_53 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_call16_v0 : Ref sig .tc := ⟨.hbm, 255, rfl⟩
abbrev main_v174 : Ref sig .tc := ⟨.hbm, 256, rfl⟩
abbrev main_c_54 : Ref sig .tc := ⟨.hbm, 257, rfl⟩
abbrev main_v175 : Ref sig .tc := ⟨.hbm, 258, rfl⟩
abbrev main_v176 : Ref sig .tc := ⟨.hbm, 259, rfl⟩
abbrev main_cst_55 : Ref sig .tc := ⟨.hbm, 260, rfl⟩
abbrev main_call17_v0 : Ref sig .tc := ⟨.hbm, 261, rfl⟩
abbrev main_call17_v1 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_cst_56 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_c_57 : Ref sig .tc := ⟨.hbm, 283, rfl⟩
abbrev main_v196 : Ref sig .tc := ⟨.hbm, 284, rfl⟩
abbrev main_v197 : Ref sig .tc := ⟨.hbm, 285, rfl⟩
abbrev main_call18_v0 : Ref sig .tc := ⟨.hbm, 286, rfl⟩
abbrev main_v198 : Ref sig .tc := ⟨.hbm, 287, rfl⟩
abbrev main_c_58 : Ref sig .tc := ⟨.hbm, 288, rfl⟩
abbrev main_v199 : Ref sig .tc := ⟨.hbm, 289, rfl⟩
abbrev main_v200 : Ref sig .tc := ⟨.hbm, 290, rfl⟩
abbrev main_call19_v0 : Ref sig .tc := ⟨.hbm, 291, rfl⟩
abbrev main_v201 : Ref sig .tc := ⟨.hbm, 292, rfl⟩
abbrev main_c_59 : Ref sig .tc := ⟨.hbm, 293, rfl⟩
abbrev main_v202 : Ref sig .tc := ⟨.hbm, 294, rfl⟩
abbrev main_v203 : Ref sig .tc := ⟨.hbm, 295, rfl⟩
abbrev main_call20_v0 : Ref sig .tc := ⟨.hbm, 296, rfl⟩
abbrev main_v204 : Ref sig .tc := ⟨.hbm, 297, rfl⟩
abbrev main_c_60 : Ref sig .tc := ⟨.hbm, 298, rfl⟩
abbrev main_v205 : Ref sig .tc := ⟨.hbm, 299, rfl⟩
abbrev main_v206 : Ref sig .tc := ⟨.hbm, 300, rfl⟩
abbrev main_call21_v0 : Ref sig .tc := ⟨.hbm, 301, rfl⟩
abbrev main_v207 : Ref sig .tc := ⟨.hbm, 302, rfl⟩
abbrev main_cst_61 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_cst_62 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_c_63 : Ref sig .tc := ⟨.hbm, 324, rfl⟩
abbrev main_v227 : Ref sig .tc := ⟨.hbm, 325, rfl⟩
abbrev main_v228 : Ref sig .tc := ⟨.hbm, 326, rfl⟩
abbrev main_call22_v0 : Ref sig .tc := ⟨.hbm, 327, rfl⟩
abbrev main_v229 : Ref sig .tc := ⟨.hbm, 328, rfl⟩
abbrev main_c_64 : Ref sig .tc := ⟨.hbm, 329, rfl⟩
abbrev main_v230 : Ref sig .tc := ⟨.hbm, 330, rfl⟩
abbrev main_v231 : Ref sig .tc := ⟨.hbm, 331, rfl⟩
abbrev main_call23_v0 : Ref sig .tc := ⟨.hbm, 332, rfl⟩
abbrev main_v232 : Ref sig .tc := ⟨.hbm, 333, rfl⟩
abbrev main_c_65 : Ref sig .tc := ⟨.hbm, 334, rfl⟩
abbrev main_v233 : Ref sig .tc := ⟨.hbm, 335, rfl⟩
abbrev main_v234 : Ref sig .tc := ⟨.hbm, 336, rfl⟩
abbrev main_call24_v0 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_c_66 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_cst_67 : Ref sig .tc := ⟨.hbm, 346, rfl⟩
abbrev main_cst_68 : Ref sig .tc := ⟨.hbm, 347, rfl⟩
abbrev main_call25_v0 : Ref sig .tc := ⟨.hbm, 348, rfl⟩
abbrev main_call25_v1 : Ref sig .tc := ⟨.hbm, 349, rfl⟩
abbrev main_v242 : Ref sig .tc := ⟨.hbm, 350, rfl⟩
abbrev main_v243 : Ref sig .tc := ⟨.hbm, 351, rfl⟩
abbrev main_c_69 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_c_70 : Ref sig .tc := ⟨.hbm, 356, rfl⟩
abbrev main_v247 : Ref sig .tc := ⟨.hbm, 357, rfl⟩
abbrev main_v248 : Ref sig .tc := ⟨.hbm, 358, rfl⟩
abbrev main_c_71 : Ref sig .tc := ⟨.hbm, 359, rfl⟩
abbrev main_v249 : Ref sig .tc := ⟨.hbm, 360, rfl⟩
abbrev main_v250 : Ref sig .tc := ⟨.hbm, 361, rfl⟩
abbrev main_c_72 : Ref sig .tc := ⟨.hbm, 362, rfl⟩
abbrev main_v251 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_c_73 : Ref sig .tc := ⟨.hbm, 368, rfl⟩
abbrev main_v256 : Ref sig .tc := ⟨.hbm, 369, rfl⟩
abbrev main_v257 : Ref sig .tc := ⟨.hbm, 370, rfl⟩
abbrev main_v258 : Ref sig .tc := ⟨.hbm, 371, rfl⟩
abbrev main_c_74 : Ref sig .tc := ⟨.hbm, 372, rfl⟩
abbrev main_v259 : Ref sig .tc := ⟨.hbm, 373, rfl⟩
abbrev main_v260 : Ref sig .tc := ⟨.hbm, 374, rfl⟩
abbrev main_c_75 : Ref sig .tc := ⟨.hbm, 375, rfl⟩
abbrev main_v261 : Ref sig .tc := ⟨.hbm, 376, rfl⟩
abbrev main_v262 : Ref sig .tc := ⟨.hbm, 377, rfl⟩
abbrev main_v263 : Ref sig .tc := ⟨.hbm, 378, rfl⟩
abbrev main_v264 : Ref sig .tc := ⟨.hbm, 379, rfl⟩
abbrev main_cst_76 : Ref sig .tc := ⟨.hbm, 380, rfl⟩
abbrev main_v265 : Ref sig .tc := ⟨.hbm, 381, rfl⟩
abbrev main_v266 : Ref sig .tc := ⟨.hbm, 382, rfl⟩
abbrev main_cst_77 : Ref sig .tc := ⟨.hbm, 383, rfl⟩
abbrev main_call26_v0 : Ref sig .tc := ⟨.hbm, 384, rfl⟩
abbrev main_call26_v1 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_c_78 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_cst_79 : Ref sig .tc := ⟨.hbm, 393, rfl⟩
abbrev main_cst_80 : Ref sig .tc := ⟨.hbm, 394, rfl⟩
abbrev main_call27_v0 : Ref sig .tc := ⟨.hbm, 395, rfl⟩
abbrev main_call27_v1 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_v283 : Ref sig .tc := ⟨.hbm, 407, rfl⟩
abbrev main_c_81 : Ref sig .tc := ⟨.hbm, 408, rfl⟩
abbrev main_call28_v0 : Ref sig .tc := ⟨.hbm, 409, rfl⟩
abbrev main_v284 : Ref sig .tc := ⟨.hbm, 410, rfl⟩
abbrev main_v285 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_c_82 : Ref sig .tc := ⟨.hbm, 415, rfl⟩
abbrev main_call29_v0 : Ref sig .tc := ⟨.hbm, 416, rfl⟩
abbrev main_v289 : Ref sig .tc := ⟨.hbm, 417, rfl⟩
abbrev main_v290 : Ref sig .tc := ⟨.hbm, 418, rfl⟩
abbrev main_v291 : Ref sig .tc := ⟨.hbm, 419, rfl⟩
abbrev main_v292 : Ref sig .tc := ⟨.hbm, 420, rfl⟩
abbrev main_v293 : Ref sig .tc := ⟨.hbm, 421, rfl⟩
abbrev main_v294 : Ref sig .tc := ⟨.hbm, 422, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨3, ![8, 4, 1], ![false, false, false]⟩

def k0_off1 (i : grid0.Coords) (c0_i32_98 : BitVec 32) (c0_i32_100 : BitVec 32) : Fin 3 → Nat :=
  let c0_101 : Index := 0#32
  let c3_i32_99 : BitVec 32 := 3#32
  let arg1 : BitVec 32 := BitVec.ofNat 32 (i 1).val
  let c4_i32 : BitVec 32 := 4#32
  let v292 : BitVec 32 := Scalar.muli arg1 c4_i32
  let v293 : BitVec 32 := Scalar.addi v292 c0_i32_98
  let v294 : BitVec 32 := Scalar.muli c3_i32_99 v293
  let v295 : BitVec 32 := Scalar.addi v294 c0_i32_100
  let v296 : Index := Scalar.indexCast v295
  let c0_102 : Index := 0#32
  ![0, v296.toNat, 0]
def k0_off2 (i : grid0.Coords) (c0_i32_310 : BitVec 32) (c0_i32_312 : BitVec 32) : Fin 3 → Nat :=
  let c1_313 : Index := 1#32
  let c3_i32_311 : BitVec 32 := 3#32
  let arg1 : BitVec 32 := BitVec.ofNat 32 (i 1).val
  let c4_i32_309 : BitVec 32 := 4#32
  let v832 : BitVec 32 := Scalar.muli arg1 c4_i32_309
  let v833 : BitVec 32 := Scalar.addi v832 c0_i32_310
  let v834 : BitVec 32 := Scalar.muli c3_i32_311 v833
  let v835 : BitVec 32 := Scalar.addi v834 c0_i32_312
  let v836 : Index := Scalar.indexCast v835
  let c0_314 : Index := 0#32
  ![1, v836.toNat, 0]
def k0_off3 (i : grid0.Coords) (c0_i32_543 : BitVec 32) (c0_i32_545 : BitVec 32) : Fin 3 → Nat :=
  let c2_546 : Index := 2#32
  let c3_i32_544 : BitVec 32 := 3#32
  let arg1 : BitVec 32 := BitVec.ofNat 32 (i 1).val
  let c4_i32_542 : BitVec 32 := 4#32
  let v1459 : BitVec 32 := Scalar.muli arg1 c4_i32_542
  let v1460 : BitVec 32 := Scalar.addi v1459 c0_i32_543
  let v1461 : BitVec 32 := Scalar.muli c3_i32_544 v1460
  let v1462 : BitVec 32 := Scalar.addi v1461 c0_i32_545
  let v1463 : Index := Scalar.indexCast v1462
  let c0_547 : Index := 0#32
  ![2, v1463.toNat, 0]
def k0_off4 (i : grid0.Coords) (c0_i32_787 : BitVec 32) (c0_i32_789 : BitVec 32) : Fin 3 → Nat :=
  let c3_790 : Index := 3#32
  let c3_i32_788 : BitVec 32 := 3#32
  let arg1 : BitVec 32 := BitVec.ofNat 32 (i 1).val
  let c4_i32_786 : BitVec 32 := 4#32
  let v2156 : BitVec 32 := Scalar.muli arg1 c4_i32_786
  let v2157 : BitVec 32 := Scalar.addi v2156 c0_i32_787
  let v2158 : BitVec 32 := Scalar.muli c3_i32_788 v2157
  let v2159 : BitVec 32 := Scalar.addi v2158 c0_i32_789
  let v2160 : Index := Scalar.indexCast v2159
  let c0_791 : Index := 0#32
  ![3, v2160.toNat, 0]
def k0_off5 (i : grid0.Coords) (c0_i32_1039 : BitVec 32) (c0_i32_1041 : BitVec 32) : Fin 3 → Nat :=
  let c4_1042 : Index := 4#32
  let c3_i32_1040 : BitVec 32 := 3#32
  let arg1 : BitVec 32 := BitVec.ofNat 32 (i 1).val
  let c4_i32_1038 : BitVec 32 := 4#32
  let v2906 : BitVec 32 := Scalar.muli arg1 c4_i32_1038
  let v2907 : BitVec 32 := Scalar.addi v2906 c0_i32_1039
  let v2908 : BitVec 32 := Scalar.muli c3_i32_1040 v2907
  let v2909 : BitVec 32 := Scalar.addi v2908 c0_i32_1041
  let v2910 : Index := Scalar.indexCast v2909
  let c0_1043 : Index := 0#32
  ![4, v2910.toNat, 0]
def k0_off6 (i : grid0.Coords) (c0_i32_1297 : BitVec 32) (c0_i32_1299 : BitVec 32) : Fin 3 → Nat :=
  let c5_1300 : Index := 5#32
  let c3_i32_1298 : BitVec 32 := 3#32
  let arg1 : BitVec 32 := BitVec.ofNat 32 (i 1).val
  let c4_i32_1296 : BitVec 32 := 4#32
  let v3709 : BitVec 32 := Scalar.muli arg1 c4_i32_1296
  let v3710 : BitVec 32 := Scalar.addi v3709 c0_i32_1297
  let v3711 : BitVec 32 := Scalar.muli c3_i32_1298 v3710
  let v3712 : BitVec 32 := Scalar.addi v3711 c0_i32_1299
  let v3713 : Index := Scalar.indexCast v3712
  let c0_1301 : Index := 0#32
  ![5, v3713.toNat, 0]
def k0_off7 (i : grid0.Coords) (c0_i32_1562 : BitVec 32) (c0_i32_1564 : BitVec 32) : Fin 3 → Nat :=
  let c6_1565 : Index := 6#32
  let c3_i32_1563 : BitVec 32 := 3#32
  let arg1 : BitVec 32 := BitVec.ofNat 32 (i 1).val
  let c4_i32_1561 : BitVec 32 := 4#32
  let v4565 : BitVec 32 := Scalar.muli arg1 c4_i32_1561
  let v4566 : BitVec 32 := Scalar.addi v4565 c0_i32_1562
  let v4567 : BitVec 32 := Scalar.muli c3_i32_1563 v4566
  let v4568 : BitVec 32 := Scalar.addi v4567 c0_i32_1564
  let v4569 : Index := Scalar.indexCast v4568
  let c0_1566 : Index := 0#32
  ![6, v4569.toNat, 0]
def k0_off8 (i : grid0.Coords) (c0_i32_1834 : BitVec 32) (c0_i32_1836 : BitVec 32) : Fin 3 → Nat :=
  let c7_1837 : Index := 7#32
  let c3_i32_1835 : BitVec 32 := 3#32
  let arg1 : BitVec 32 := BitVec.ofNat 32 (i 1).val
  let c4_i32_1833 : BitVec 32 := 4#32
  let v5472 : BitVec 32 := Scalar.muli arg1 c4_i32_1833
  let v5473 : BitVec 32 := Scalar.addi v5472 c0_i32_1834
  let v5474 : BitVec 32 := Scalar.muli c3_i32_1835 v5473
  let v5475 : BitVec 32 := Scalar.addi v5474 c0_i32_1836
  let v5476 : Index := Scalar.indexCast v5475
  let c0_1838 : Index := 0#32
  ![7, v5476.toNat, 0]
@[reducible] def k0_t1_loop : Scf.Loop 32 :=
  let c0_i32_5 : BitVec 32 := 0#32
  let c8_i32 : BitVec 32 := 8#32
  let v11 : BitVec 32 := Scalar.addi c0_i32_5 c8_i32
  let c1_i32_6 : BitVec 32 := 1#32
  ⟨c0_i32_5, v11, c1_i32_6⟩
def k0_mult1 (k0_t1 : Fin k0_t1_loop.trips) : BitVec 32 :=
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let c256_i32 : BitVec 32 := 256#32
  let v16 : BitVec 32 := Scalar.muli v13 c256_i32
  v16
def k0_off9 (i : grid0.Coords) (k0_t1 : Fin k0_t1_loop.trips) : Fin 4 → Nat :=
  let c0_15 : Index := 0#32
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v32 : Index := Scalar.indexCast v15
  let c0_16 : Index := 0#32
  let c0_17 : Index := 0#32
  ![0, v32.toNat, 0, 0]
def k0_off10 (k0_t1 : Fin k0_t1_loop.trips) : Fin 2 → Nat :=
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let c256_i32 : BitVec 32 := 256#32
  let v16 : BitVec 32 := Scalar.muli v13 c256_i32
  let v17 : BitVec 32 := v16
  let v40 : Index := Scalar.indexCast v17
  let c0_18 : Index := 0#32
  ![v40.toNat, 0]
def k0_off11 (k0_t1 : Fin k0_t1_loop.trips) : Fin 2 → Nat :=
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let c256_i32 : BitVec 32 := 256#32
  let v16 : BitVec 32 := Scalar.muli v13 c256_i32
  let v17 : BitVec 32 := v16
  let v73 : Index := Scalar.indexCast v17
  let c128 : Index := 128#32
  ![v73.toNat, 128]
def k0_off12 (k0_t1 : Fin k0_t1_loop.trips) : Fin 2 → Nat :=
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let c256_i32 : BitVec 32 := 256#32
  let v16 : BitVec 32 := Scalar.muli v13 c256_i32
  let v17 : BitVec 32 := v16
  let v108 : Index := Scalar.indexCast v17
  let c0_39 : Index := 0#32
  ![v108.toNat, 0]
def k0_off13 (k0_t1 : Fin k0_t1_loop.trips) : Fin 3 → Nat :=
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v113 : Index := Scalar.indexCast v13
  let c0_40 : Index := 0#32
  let c0_41 : Index := 0#32
  ![v113.toNat, 0, 0]
def k0_mult2 (i : grid0.Coords) (k0_t1 : Fin k0_t1_loop.trips) : BitVec 32 :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let c256_i32_11 : BitVec 32 := 256#32
  let v18 : BitVec 32 := Scalar.muli v15 c256_i32_11
  let c0_i32_52 : BitVec 32 := 0#32
  let v151 : BitVec 32 := Scalar.addi v18 c0_i32_52
  v151
def k0_off14 (i : grid0.Coords) (k0_t1 : Fin k0_t1_loop.trips) (c0_i32_52 : BitVec 32) : Fin 2 → Nat :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let c256_i32_11 : BitVec 32 := 256#32
  let v18 : BitVec 32 := Scalar.muli v15 c256_i32_11
  let v151 : BitVec 32 := Scalar.addi v18 c0_i32_52
  let v152 : BitVec 32 := v151
  let v153 : Index := Scalar.indexCast v152
  let c0_53 : Index := 0#32
  ![v153.toNat, 0]
def k0_mult3 (i : grid0.Coords) (k0_t1 : Fin k0_t1_loop.trips) : BitVec 32 :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let c256_i32_11 : BitVec 32 := 256#32
  let v18 : BitVec 32 := Scalar.muli v15 c256_i32_11
  let c256_i32_55 : BitVec 32 := 256#32
  let v157 : BitVec 32 := Scalar.addi v18 c256_i32_55
  v157
def k0_mult4 (i : grid0.Coords) (k0_t1 : Fin k0_t1_loop.trips) : BitVec 32 :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let c256_i32_11 : BitVec 32 := 256#32
  let v18 : BitVec 32 := Scalar.muli v15 c256_i32_11
  let c512_i32 : BitVec 32 := 512#32
  let v162 : BitVec 32 := Scalar.addi v18 c512_i32
  v162
def k0_off15 (i : grid0.Coords) (k0_t1 : Fin k0_t1_loop.trips) (c0_i32_60 : BitVec 32) : Fin 3 → Nat :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v168 : BitVec 32 := Scalar.addi v15 c0_i32_60
  let v169 : Index := Scalar.indexCast v168
  let c0_61 : Index := 0#32
  let c0_62 : Index := 0#32
  ![v169.toNat, 0, 0]
@[reducible] def k0_t2_loop (i : grid0.Coords) (k0_t1 : Fin k0_t1_loop.trips) : Scf.Loop 32 :=
  let c0_i32_118 : BitVec 32 := 0#32
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v663 : BitVec 32 := Scalar.subi v15 c0_i32_118
  let c1_i32_119 : BitVec 32 := 1#32
  let v665 : BitVec 32 := Scalar.divsi v663 c1_i32_119
  let v666 : BitVec 32 := Scalar.muli v665 c1_i32_119
  let v667 : BitVec 32 := Scalar.addi c0_i32_118 v666
  let c1_i32_120 : BitVec 32 := 1#32
  ⟨c0_i32_118, v667, c1_i32_120⟩
def k0_mult5 (i : grid0.Coords) (k0_t1 : Fin k0_t1_loop.trips) (k0_t2 : Fin (k0_t2_loop i k0_t1).trips) : BitVec 32 :=
  let c0_i32_118 : BitVec 32 := 0#32
  let c1_i32_120 : BitVec 32 := 1#32
  let arg27 : BitVec 32 := Scf.iv c0_i32_118 c1_i32_120 k0_t2
  let c256_i32_204 : BitVec 32 := 256#32
  let v890 : BitVec 32 := Scalar.muli arg27 c256_i32_204
  v890
def k0_off16 (i : grid0.Coords) (k0_t1 : Fin k0_t1_loop.trips) (k0_t2 : Fin (k0_t2_loop i k0_t1).trips) : Fin 2 → Nat :=
  let c0_i32_118 : BitVec 32 := 0#32
  let c1_i32_120 : BitVec 32 := 1#32
  let arg27 : BitVec 32 := Scf.iv c0_i32_118 c1_i32_120 k0_t2
  let c256_i32_204 : BitVec 32 := 256#32
  let v890 : BitVec 32 := Scalar.muli arg27 c256_i32_204
  let v891 : BitVec 32 := v890
  let v892 : Index := Scalar.indexCast v891
  let c0_205 : Index := 0#32
  ![v892.toNat, 0]
def k0_off17 (i : grid0.Coords) (k0_t1 : Fin k0_t1_loop.trips) (k0_t2 : Fin (k0_t2_loop i k0_t1).trips) : Fin 3 → Nat :=
  let c0_i32_118 : BitVec 32 := 0#32
  let c1_i32_120 : BitVec 32 := 1#32
  let arg27 : BitVec 32 := Scf.iv c0_i32_118 c1_i32_120 k0_t2
  let v909 : Index := Scalar.indexCast arg27
  let c0_209 : Index := 0#32
  let c0_210 : Index := 0#32
  ![v909.toNat, 0, 0]
@[reducible] def k0_t3_loop (i : grid0.Coords) (k0_t1 : Fin k0_t1_loop.trips) : Scf.Loop 32 :=
  let c0_i32_118 : BitVec 32 := 0#32
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v663 : BitVec 32 := Scalar.subi v15 c0_i32_118
  let c1_i32_119 : BitVec 32 := 1#32
  let v665 : BitVec 32 := Scalar.divsi v663 c1_i32_119
  let v666 : BitVec 32 := Scalar.muli v665 c1_i32_119
  let v667 : BitVec 32 := Scalar.addi c0_i32_118 v666
  let v664 : BitVec 32 := Scalar.addi c0_i32_118 v663
  let c1_i32_121 : BitVec 32 := 1#32
  ⟨v667, v664, c1_i32_121⟩
def k0_mult6 (i : grid0.Coords) (k0_t1 : Fin k0_t1_loop.trips) (k0_t3 : Fin (k0_t3_loop i k0_t1).trips) : BitVec 32 :=
  let c0_i32_118 : BitVec 32 := 0#32
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v663 : BitVec 32 := Scalar.subi v15 c0_i32_118
  let c1_i32_119 : BitVec 32 := 1#32
  let v665 : BitVec 32 := Scalar.divsi v663 c1_i32_119
  let v666 : BitVec 32 := Scalar.muli v665 c1_i32_119
  let v667 : BitVec 32 := Scalar.addi c0_i32_118 v666
  let c1_i32_121 : BitVec 32 := 1#32
  let arg27 : BitVec 32 := Scf.iv v667 c1_i32_121 k0_t3
  let c256_i32_204 : BitVec 32 := 256#32
  let v890 : BitVec 32 := Scalar.muli arg27 c256_i32_204
  v890
def k0_off18 (i : grid0.Coords) (k0_t1 : Fin k0_t1_loop.trips) (k0_t3 : Fin (k0_t3_loop i k0_t1).trips) : Fin 2 → Nat :=
  let c0_i32_118 : BitVec 32 := 0#32
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v663 : BitVec 32 := Scalar.subi v15 c0_i32_118
  let c1_i32_119 : BitVec 32 := 1#32
  let v665 : BitVec 32 := Scalar.divsi v663 c1_i32_119
  let v666 : BitVec 32 := Scalar.muli v665 c1_i32_119
  let v667 : BitVec 32 := Scalar.addi c0_i32_118 v666
  let c1_i32_121 : BitVec 32 := 1#32
  let arg27 : BitVec 32 := Scf.iv v667 c1_i32_121 k0_t3
  let c256_i32_204 : BitVec 32 := 256#32
  let v890 : BitVec 32 := Scalar.muli arg27 c256_i32_204
  let v891 : BitVec 32 := v890
  let v892 : Index := Scalar.indexCast v891
  let c0_205 : Index := 0#32
  ![v892.toNat, 0]
def k0_off19 (i : grid0.Coords) (k0_t1 : Fin k0_t1_loop.trips) (k0_t3 : Fin (k0_t3_loop i k0_t1).trips) : Fin 3 → Nat :=
  let c0_i32_118 : BitVec 32 := 0#32
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v663 : BitVec 32 := Scalar.subi v15 c0_i32_118
  let c1_i32_119 : BitVec 32 := 1#32
  let v665 : BitVec 32 := Scalar.divsi v663 c1_i32_119
  let v666 : BitVec 32 := Scalar.muli v665 c1_i32_119
  let v667 : BitVec 32 := Scalar.addi c0_i32_118 v666
  let c1_i32_121 : BitVec 32 := 1#32
  let arg27 : BitVec 32 := Scf.iv v667 c1_i32_121 k0_t3
  let v909 : Index := Scalar.indexCast arg27
  let c0_209 : Index := 0#32
  let c0_210 : Index := 0#32
  ![v909.toNat, 0, 0]
def k0_mult7 (i : grid0.Coords) (k0_t1 : Fin k0_t1_loop.trips) : BitVec 32 :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let c256_i32_122 : BitVec 32 := 256#32
  let v670 : BitVec 32 := Scalar.muli v15 c256_i32_122
  v670
def k0_off20 (i : grid0.Coords) (k0_t1 : Fin k0_t1_loop.trips) : Fin 2 → Nat :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let c256_i32_122 : BitVec 32 := 256#32
  let v670 : BitVec 32 := Scalar.muli v15 c256_i32_122
  let v671 : BitVec 32 := v670
  let v672 : Index := Scalar.indexCast v671
  let c0_123 : Index := 0#32
  ![v672.toNat, 0]
def k0_off21 (i : grid0.Coords) (k0_t1 : Fin k0_t1_loop.trips) : Fin 3 → Nat :=
  let arg2 : BitVec 32 := BitVec.ofNat 32 (i 2).val
  let c8_i32_10 : BitVec 32 := 8#32
  let v14 : BitVec 32 := Scalar.muli arg2 c8_i32_10
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v15 : BitVec 32 := Scalar.addi v14 v13
  let v690 : Index := Scalar.indexCast v15
  let c0_127 : Index := 0#32
  let c0_128 : Index := 0#32
  ![v690.toNat, 0, 0]
def k0_off22 (i : grid0.Coords) (k0_t1 : Fin k0_t1_loop.trips) (c0_i32_131 : BitVec 32) (c0_i32_133 : BitVec 32) : Fin 3 → Nat :=
  let c0_i32_9 : BitVec 32 := 0#32
  let c0_i32_5 : BitVec 32 := 0#32
  let c1_i32_6 : BitVec 32 := 1#32
  let arg26 : BitVec 32 := Scf.iv c0_i32_5 c1_i32_6 k0_t1
  let c1_i32_8 : BitVec 32 := 1#32
  let v12 : BitVec 32 := Scalar.muli arg26 c1_i32_8
  let v13 : BitVec 32 := Scalar.addi c0_i32_9 v12
  let v702 : Index := Scalar.indexCast v13
  let c3_i32_132 : BitVec 32 := 3#32
  let arg1 : BitVec 32 := BitVec.ofNat 32 (i 1).val
  let c4_i32_130 : BitVec 32 := 4#32
  let v698 : BitVec 32 := Scalar.muli arg1 c4_i32_130
  let v699 : BitVec 32 := Scalar.addi v698 c0_i32_131
  let v700 : BitVec 32 := Scalar.muli c3_i32_132 v699
  let v701 : BitVec 32 := Scalar.addi v700 c0_i32_133
  let v703 : Index := Scalar.indexCast v701
  let c0_134 : Index := 0#32
  ![v702.toNat, v703.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2560x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x8x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S32x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S2048x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== Kernel2.lean ====
abbrev S8x2048x2048 : Shape := ⟨3, ![8, 2048, 2048]⟩
abbrev S8x2048x1024 : Shape := ⟨3, ![8, 2048, 1024]⟩
abbrev S1x2048x2048 : Shape := ⟨3, ![1, 2048, 2048]⟩
abbrev S2048 : Shape := ⟨1, ![2048]⟩
abbrev S2048x2048 : Shape := ⟨2, ![2048, 2048]⟩
abbrev S16384x2048 : Shape := ⟨2, ![16384, 2048]⟩
abbrev S16384x1024 : Shape := ⟨2, ![16384, 1024]⟩
abbrev S1024x2048 : Shape := ⟨2, ![1024, 2048]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S1x2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S16384x2048, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S1024x2048, .bf16⟩
  | .hbm, ⟨13, _⟩ => ⟨S1024x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x2048 : Shape := ⟨3, ![8, 2048, 2048]⟩
abbrev S8x2048x1024 : Shape := ⟨3, ![8, 2048, 1024]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S1x2048x2048, .f32⟩
  | .hbm, ⟨4, _⟩ => ⟨S2048, .f32⟩
  | .hbm, ⟨5, _⟩ => ⟨S8x2048x2048, .f32⟩
  | .hbm, ⟨6, _⟩ => ⟨S2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel3.lean ====
abbrev S8x2048x2048 : Shape := ⟨3, ![8, 2048, 2048]⟩
abbrev S1x2048 : Shape := ⟨2, ![1, 2048]⟩
abbrev S2048x7808 : Shape := ⟨2, ![2048, 7808]⟩
abbrev S16384x2048 : Shape := ⟨2, ![16384, 2048]⟩
abbrev S16384x4608 : Shape := ⟨2, ![16384, 4608]⟩
abbrev S16384x3072 : Shape := ⟨2, ![16384, 3072]⟩
abbrev S16384x128 : Shape := ⟨2, ![16384, 128]⟩
abbrev S1024x2048 : Shape := ⟨2, ![1024, 2048]⟩
abbrev S2048x1536 : Shape := ⟨2, ![2048, 1536]⟩
abbrev S2048x128 : Shape := ⟨2, ![2048, 128]⟩
abbrev S1024x1536 : Shape := ⟨2, ![1024, 1536]⟩
abbrev S1024x128 : Shape := ⟨2, ![1024, 128]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S2048x7808, .f32⟩
  | .hbm, ⟨3, _⟩ => ⟨S16384x2048, .f32⟩
  | .hbm, ⟨4, _⟩ => ⟨S2048x7808, .bf16⟩
  | .hbm, ⟨5, _⟩ => ⟨S16384x4608, .bf16⟩
  | .hbm, ⟨6, _⟩ => ⟨S16384x3072, .f32⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S2048x128, .bf16⟩
  | .local _ .vmem, ⟨6, _⟩ => ⟨S1024x1536, .bf16⟩
  | .local _ .vmem, ⟨7, _⟩ => ⟨S1024x1536, .bf16⟩
  | .local _ .vmem, ⟨8, _⟩ => ⟨S1024x1536, .f32⟩
  | .local _ .vmem, ⟨9, _⟩ => ⟨S1024x1536, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c128_i32 : BitVec 32 := 128#32
  let v15 : BitVec 32 := Scalar.muli arg10 c128_i32
  v15
def k0_off1 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c128_i32 : BitVec 32 := 128#32
  let v15 : BitVec 32 := Scalar.muli arg10 c128_i32
  let v16 : BitVec 32 := v15
  let v17 : Index := Scalar.indexCast v16
  let c0_11 : Index := 0#32
  ![v17.toNat, 0]
def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .sge arg1 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c60_i32 : BitVec 32 := 60#32
  let c0_i32_0 : BitVec 32 := 0#32
  ![c0_i32.toNat, c60_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8x2048x2048 : Shape := ⟨3, ![8, 2048, 2048]⟩
abbrev S1x2048 : Shape := ⟨2, ![1, 2048]⟩
abbrev S2048x7808 : Shape := ⟨2, ![2048, 7808]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩
abbrev S16384x7808 : Shape := ⟨2, ![16384, 7808]⟩
abbrev S16384x4608 : Shape := ⟨2, ![16384, 4608]⟩
abbrev S16384x3072 : Shape := ⟨2, ![16384, 3072]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S2048x7808, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S16384x2048, .f32⟩
  | .hbm, ⟨21, _⟩ => ⟨S16384x7808, .f32⟩
  | .hbm, ⟨22, _⟩ => ⟨S16384x4608, .f32⟩
  | .hbm, ⟨23, _⟩ => ⟨S16384x4608, .bf16⟩
  | .hbm, ⟨24, _⟩ => ⟨S16384x3072, .f32⟩
  | .hbm, ⟨25, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S8x2048x256 : Shape := ⟨3, ![8, 2048, 256]⟩
abbrev S1x32x64 : Shape := ⟨3, ![1, 32, 64]⟩
abbrev S1x2048x256 : Shape := ⟨3, ![1, 2048, 256]⟩
abbrev S1x256x64 : Shape := ⟨3, ![1, 256, 64]⟩
abbrev S128x128 : Shape := ⟨2, ![128, 128]⟩
abbrev S8x2048x4x64 : Shape := ⟨4, ![8, 2048, 4, 64]⟩
abbrev S8x2048x4x128 : Shape := ⟨4, ![8, 2048, 4, 128]⟩
abbrev S16384x512 : Shape := ⟨2, ![16384, 512]⟩
abbrev S2048x256 : Shape := ⟨2, ![2048, 256]⟩
abbrev S2x16x64x256 : Shape := ⟨4, ![2, 16, 64, 256]⟩
abbrev S1x16x64x256 : Shape := ⟨4, ![1, 16, 64, 256]⟩
abbrev S16x64x256 : Shape := ⟨3, ![16, 64, 256]⟩
abbrev S_ : Shape := ⟨0, ![]⟩
abbrev S16x64x512 : Shape := ⟨3, ![16, 64, 512]⟩
abbrev S16x128x512 : Shape := ⟨3, ![16, 128, 512]⟩
abbrev S2048x512 : Shape := ⟨2, ![2048, 512]⟩
abbrev S256x64 : Shape := ⟨2, ![256, 64]⟩
abbrev S256x128 : Shape := ⟨2, ![256, 128]⟩
abbrev S512x128 : Shape := ⟨2, ![512, 128]⟩
abbrev S32x64 : Shape := ⟨2, ![32, 64]⟩
abbrev S2x16x64 : Shape := ⟨3, ![2, 16, 64]⟩
abbrev S2x16x128 : Shape := ⟨3, ![2, 16, 128]⟩
abbrev S2x2048 : Shape := ⟨2, ![2, 2048]⟩
abbrev S1x128x1x128 : Shape := ⟨4, ![1, 128, 1, 128]⟩
abbrev S4x128x1x128 : Shape := ⟨4, ![4, 128, 1, 128]⟩
abbrev S4096x128 : Shape := ⟨2, ![4096, 128]⟩
abbrev S2048x128 : Shape := ⟨2, ![2048, 128]⟩
abbrev S512x2048 : Shape := ⟨2, ![512, 2048]⟩
abbrev S1x2048 : Shape := ⟨2, ![1, 2048]⟩
abbrev S512x512 : Shape := ⟨2, ![512, 512]⟩
abbrev S64x128 : Shape := ⟨2, ![64, 128]⟩
abbrev S8x4x128x128 : Shape := ⟨4, ![8, 4, 128, 128]⟩
abbrev S8x4x127x64 : Shape := ⟨4, ![8, 4, 127, 64]⟩
abbrev S8x127x4x64 : Shape := ⟨4, ![8, 127, 4, 64]⟩
abbrev S8x4x64x128 : Shape := ⟨4, ![8, 4, 64, 128]⟩
abbrev S8x4x64x127 : Shape := ⟨4, ![8, 4, 64, 127]⟩

abbrev nBuf : Space → Nat
  | .hbm => 66
  | .vmem => 19
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S1x32x64, .f32⟩
  | .hbm, ⟨3, _⟩ => ⟨S1x2048x256, .f32⟩
  | .hbm, ⟨4, _⟩ => ⟨S1x256x64, .f32⟩
  | .hbm, ⟨5, _⟩ => ⟨S1x32x64, .f32⟩
  | .hbm, ⟨6, _⟩ => ⟨S1x2048x256, .f32⟩
  | .hbm, ⟨7, _⟩ => ⟨S1x256x64, .f32⟩
  | .hbm, ⟨8, _⟩ => ⟨S128x128, .bf16⟩
  | .hbm, ⟨9, _⟩ => ⟨S8x2048x4x64, .f32⟩
  | .hbm, ⟨10, _⟩ => ⟨S8x2048x4x64, .f32⟩
  | .hbm, ⟨11, _⟩ => ⟨S8x2048x4x128, .f32⟩
  | .hbm, ⟨12, _⟩ => ⟨S16384x512, .f32⟩
  | .hbm, ⟨13, _⟩ => ⟨S16384x512, .bf16⟩
  | .hbm, ⟨14, _⟩ => ⟨S2048x256, .f32⟩
  | .hbm, ⟨15, _⟩ => ⟨S2048x256, .f32⟩
  | .hbm, ⟨16, _⟩ => ⟨S2x16x64x256, .f32⟩
  | .hbm, ⟨17, _⟩ => ⟨S2x16x64x256, .f32⟩
  | .hbm, ⟨18, _⟩ => ⟨S1x16x64x256, .f32⟩
  | .hbm, ⟨19, _⟩ => ⟨S16x64x256, .f32⟩
  | .hbm, ⟨20, _⟩ => ⟨S_, .f32⟩
  | .hbm, ⟨21, _⟩ => ⟨S16x64x256, .f32⟩
  | .hbm, ⟨22, _⟩ => ⟨S1x16x64x256, .f32⟩
  | .hbm, ⟨23, _⟩ => ⟨S16x64x256, .f32⟩
  | .hbm, ⟨24, _⟩ => ⟨S16x64x512, .f32⟩
  | .hbm, ⟨25, _⟩ => ⟨S1x16x64x256, .f32⟩
  | .hbm, ⟨26, _⟩ => ⟨S16x64x256, .f32⟩
  | .hbm, ⟨27, _⟩ => ⟨S16x64x512, .f32⟩
  | .hbm, ⟨28, _⟩ => ⟨S16x128x512, .f32⟩
  | .hbm, ⟨29, _⟩ => ⟨S2048x512, .f32⟩
  | .hbm, ⟨30, _⟩ => ⟨S2048x512, .bf16⟩
  | .hbm, ⟨31, _⟩ => ⟨S1x16x64x256, .f32⟩
  | .hbm, ⟨32, _⟩ => ⟨S16x64x256, .f32⟩
  | .hbm, ⟨33, _⟩ => ⟨S16x64x512, .f32⟩
  | .hbm, ⟨34, _⟩ => ⟨S1x16x64x256, .f32⟩
  | .hbm, ⟨35, _⟩ => ⟨S16x64x256, .f32⟩
  | .hbm, ⟨36, _⟩ => ⟨S16x64x512, .f32⟩
  | .hbm, ⟨37, _⟩ => ⟨S16x128x512, .f32⟩
  | .hbm, ⟨38, _⟩ => ⟨S2048x512, .f32⟩
  | .hbm, ⟨39, _⟩ => ⟨S2048x512, .bf16⟩
  | .hbm, ⟨40, _⟩ => ⟨S256x64, .f32⟩
  | .hbm, ⟨41, _⟩ => ⟨S_, .f32⟩
  | .hbm, ⟨42, _⟩ => ⟨S256x64, .f32⟩
  | .hbm, ⟨43, _⟩ => ⟨S256x64, .f32⟩
  | .hbm, ⟨44, _⟩ => ⟨S256x128, .f32⟩
  | .hbm, ⟨45, _⟩ => ⟨S256x64, .f32⟩
  | .hbm, ⟨46, _⟩ => ⟨S256x128, .f32⟩
  | .hbm, ⟨47, _⟩ => ⟨S512x128, .f32⟩
  | .hbm, ⟨48, _⟩ => ⟨S512x128, .bf16⟩
  | .hbm, ⟨49, _⟩ => ⟨S32x64, .f32⟩
  | .hbm, ⟨50, _⟩ => ⟨S2x16x64, .f32⟩
  | .hbm, ⟨51, _⟩ => ⟨S32x64, .f32⟩
  | .hbm, ⟨52, _⟩ => ⟨S2x16x64, .f32⟩
  | .hbm, ⟨53, _⟩ => ⟨S2x16x128, .f32⟩
  | .hbm, ⟨54, _⟩ => ⟨S2x2048, .f32⟩
  | .hbm, ⟨55, _⟩ => ⟨S1x128x1x128, .bf16⟩
  | .hbm, ⟨56, _⟩ => ⟨S4x128x1x128, .bf16⟩
  | .hbm, ⟨57, _⟩ => ⟨S512x128, .bf16⟩
  | .hbm, ⟨58, _⟩ => ⟨S4096x128, .bf16⟩
  | .hbm, ⟨59, _⟩ => ⟨S2048x128, .bf16⟩
  | .hbm, ⟨60, _⟩ => ⟨S8x4x128x128, .bf16⟩
  | .hbm, ⟨61, _⟩ => ⟨S8x4x127x64, .bf16⟩
  | .hbm, ⟨62, _⟩ => ⟨S8x127x4x64, .bf16⟩
  | .hbm, ⟨63, _⟩ => ⟨S8x4x64x128, .bf16⟩
  | .hbm, ⟨64, _⟩ => ⟨S8x4x64x127, .bf16⟩
  | .hbm, ⟨65, _⟩ => ⟨S8x127x4x64, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2x2048, .f32⟩
  | .local _ .vmem, ⟨9, _⟩ => ⟨S2048x512, .bf16⟩
  | .local _ .vmem, ⟨10, _⟩ => ⟨S2048x512, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S256x128, .bf16⟩
  | .local _ .vmem, ⟨16, _⟩ => ⟨S256x128, .bf16⟩
  | .local _ .vmem, ⟨17, _⟩ => ⟨S512x2048, .f32⟩
  | .local _ .vmem, ⟨18, _⟩ => ⟨S2048x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x2048x256 : Shape := ⟨3, ![8, 2048, 256]⟩
abbrev S1x32x64 : Shape := ⟨3, ![1, 32, 64]⟩
abbrev S1x2048x256 : Shape := ⟨3, ![1, 2048, 256]⟩
abbrev S1x256x64 : Shape := ⟨3, ![1, 256, 64]⟩
abbrev S127x32 : Shape := ⟨2, ![127, 32]⟩
abbrev S8x2048x4x64 : Shape := ⟨4, ![8, 2048, 4, 64]⟩
abbrev S32x64 : Shape := ⟨2, ![32, 64]⟩
abbrev S2048x256 : Shape := ⟨2, ![2048, 256]⟩
abbrev S256x64 : Shape := ⟨2, ![256, 64]⟩
abbrev S_ : Shape := ⟨0, ![]⟩
abbrev S127x32x1 : Shape := ⟨3, ![127, 32, 1]⟩
abbrev S8x127x32x4x64 : Shape := ⟨5, ![8, 127, 32, 4, 64]⟩
abbrev S32x1x64 : Shape := ⟨3, ![32, 1, 64]⟩
abbrev S1x1x32x1x64 : Shape := ⟨5, ![1, 1, 32, 1, 64]⟩
abbrev S8x127x4x32x64 : Shape := ⟨5, ![8, 127, 4, 32, 64]⟩
abbrev S8x127x4x2048 : Shape := ⟨4, ![8, 127, 4, 2048]⟩
abbrev S8x127x4x256 : Shape := ⟨4, ![8, 127, 4, 256]⟩
abbrev S8x127x4x64 : Shape := ⟨4, ![8, 127, 4, 64]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S1x32x64, .f32⟩
  | .hbm, ⟨3, _⟩ => ⟨S1x2048x256, .f32⟩
  | .hbm, ⟨4, _⟩ => ⟨S1x256x64, .f32⟩
  | .hbm, ⟨5, _⟩ => ⟨S1x32x64, .f32⟩
  | .hbm, ⟨6, _⟩ => ⟨S1x2048x256, .f32⟩
  | .hbm, ⟨7, _⟩ => ⟨S1x256x64, .f32⟩
  | .hbm, ⟨8, _⟩ => ⟨S127x32, .i32⟩
  | .hbm, ⟨9, _⟩ => ⟨S127x32, .i1⟩
  | .hbm, ⟨10, _⟩ => ⟨S127x32, .i32⟩
  | .hbm, ⟨11, _⟩ => ⟨S127x32, .i1⟩
  | .hbm, ⟨12, _⟩ => ⟨S8x2048x4x64, .f32⟩
  | .hbm, ⟨13, _⟩ => ⟨S32x64, .f32⟩
  | .hbm, ⟨14, _⟩ => ⟨S2048x256, .f32⟩
  | .hbm, ⟨15, _⟩ => ⟨S256x64, .f32⟩
  | .hbm, ⟨16, _⟩ => ⟨S_, .i32⟩
  | .hbm, ⟨17, _⟩ => ⟨S127x32, .i32⟩
  | .hbm, ⟨18, _⟩ => ⟨S127x32, .i32⟩
  | .hbm, ⟨19, _⟩ => ⟨S127x32, .i32⟩
  | .hbm, ⟨20, _⟩ => ⟨S127x32x1, .i32⟩
  | .hbm, ⟨21, _⟩ => ⟨S8x127x32x4x64, .f32⟩
  | .hbm, ⟨22, _⟩ => ⟨S32x1x64, .f32⟩
  | .hbm, ⟨23, _⟩ => ⟨S1x1x32x1x64, .f32⟩
  | .hbm, ⟨24, _⟩ => ⟨S8x127x32x4x64, .f32⟩
  | .hbm, ⟨25, _⟩ => ⟨S8x127x32x4x64, .f32⟩
  | .hbm, ⟨26, _⟩ => ⟨S8x127x4x32x64, .f32⟩
  | .hbm, ⟨27, _⟩ => ⟨S8x127x4x2048, .f32⟩
  | .hbm, ⟨28, _⟩ => ⟨S8x127x4x256, .f32⟩
  | .hbm, ⟨29, _⟩ => ⟨S8x127x4x256, .f32⟩
  | .hbm, ⟨30, _⟩ => ⟨S8x127x4x256, .f32⟩
  | .hbm, ⟨31, _⟩ => ⟨S_, .f32⟩
  | .hbm, ⟨32, _⟩ => ⟨S8x127x4x256, .f32⟩
  | .hbm, ⟨33, _⟩ => ⟨S8x127x4x256, .f32⟩
  | .hbm, ⟨34, _⟩ => ⟨S8x127x4x256, .f32⟩
  | .hbm, ⟨35, _⟩ => ⟨S_, .f32⟩
  | .hbm, ⟨36, _⟩ => ⟨S8x127x4x256, .f32⟩
  | .hbm, ⟨37, _⟩ => ⟨S8x127x4x256, .f32⟩
  | .hbm, ⟨38, _⟩ => ⟨S8x127x4x256, .f32⟩
  | .hbm, ⟨39, _⟩ => ⟨S_, .f32⟩
  | .hbm, ⟨40, _⟩ => ⟨S8x127x4x256, .f32⟩
  | .hbm, ⟨41, _⟩ => ⟨S8x127x4x256, .f32⟩
  | .hbm, ⟨42, _⟩ => ⟨S_, .f32⟩
  | .hbm, ⟨43, _⟩ => ⟨S8x127x4x256, .f32⟩
  | .hbm, ⟨44, _⟩ => ⟨S8x127x4x256, .f32⟩
  | .hbm, ⟨45, _⟩ => ⟨S8x127x4x256, .f32⟩
  | .hbm, ⟨46, _⟩ => ⟨S8x127x4x64, .f32⟩
  | .hbm, ⟨47, _⟩ => ⟨S8x127x4x64, .bf16⟩
  | .hbm, ⟨48, _⟩ => ⟨S8x2048x4x64, .f32⟩
  | .hbm, ⟨49, _⟩ => ⟨S32x64, .f32⟩
  | .hbm, ⟨50, _⟩ => ⟨S2048x256, .f32⟩
  | .hbm, ⟨51, _⟩ => ⟨S256x64, .f32⟩
  | .hbm, ⟨52, _⟩ => ⟨S_, .i32⟩
  | .hbm, ⟨53, _⟩ => ⟨S127x32, .i32⟩
  | .hbm, ⟨54, _⟩ => ⟨S127x32, .i32⟩
  | .hbm, ⟨55, _⟩ => ⟨S127x32, .i32⟩
  | .hbm, ⟨56, _⟩ => ⟨S127x32x1, .i32⟩
  | .hbm, ⟨57, _⟩ => ⟨S8x127x32x4x64, .f32⟩
  | .hbm, ⟨58, _⟩ => ⟨S32x1x64, .f32⟩
  | .hbm, ⟨59, _⟩ => ⟨S1x1x32x1x64, .f32⟩
  | .hbm, ⟨60, _⟩ => ⟨S8x127x32x4x64, .f32⟩
  | .hbm, ⟨61, _⟩ => ⟨S8x127x32x4x64, .f32⟩
  | .hbm, ⟨62, _⟩ => ⟨S8x127x4x32x64, .f32⟩
  | .hbm, ⟨63, _⟩ => ⟨S8x127x4x2048, .f32⟩
  | .hbm, ⟨64, _⟩ => ⟨S8x127x4x256, .f32⟩
  | .hbm, ⟨65, _⟩ => ⟨S8x127x4x256, .f32⟩
  | .hbm, ⟨66, _⟩ => ⟨S8x127x4x256, .f32⟩
  | .hbm, ⟨67, _⟩ => ⟨S_, .f32⟩
  | .hbm, ⟨68, _⟩ => ⟨S8x127x4x256, .f32⟩
  | .hbm, ⟨69, _⟩ => ⟨S8x127x4x256, .f32⟩
  | .hbm, ⟨70, _⟩ => ⟨S8x127x4x256, .f32⟩
  | .hbm, ⟨71, _⟩ => ⟨S_, .f32⟩
  | .hbm, ⟨72, _⟩ => ⟨S8x127x4x256, .f32⟩
  | .hbm, ⟨73, _⟩ => ⟨S8x127x4x256, .f32⟩
  | .hbm, ⟨74, _⟩ => ⟨S8x127x4x256, .f32⟩
  | .hbm, ⟨75, _⟩ => ⟨S_, .f32⟩
  | .hbm, ⟨76, _⟩ => ⟨S8x127x4x256, .f32⟩
  | .hbm, ⟨77, _⟩ => ⟨S8x127x4x256, .f32⟩
  | .hbm, ⟨78, _⟩ => ⟨S_, .f32⟩
  | .hbm, ⟨79, _⟩ => ⟨S8x127x4x256, .f32⟩
  | .hbm, ⟨80, _⟩ => ⟨S8x127x4x256, .f32⟩
  | .hbm, ⟨81, _⟩ => ⟨S8x127x4x256, .f32⟩
  | .hbm, ⟨82, _⟩ => ⟨S8x127x4x64, .f32⟩
  | .hbm, ⟨83, _⟩ => ⟨S8x127x4x64, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Proof.Keeps.lean ====
/-
  What every step of the attention body keeps: a list of buffers, each held whole at contents nothing names.

  A frame says nothing of what the body computes, so a program is described here by one sentence: it runs from the
  buffers of a list, each at some contents, back to the same buffers, each at some contents. The sentence is closed
  under sequence, branch and counted loop, and it holds of a load and of a store at any buffer of the list.
-/
module

public import proofs.«01_k».proof.Proof.Gen.KernelIdeal.Frame
public import Idealize.ShloMosaic.Lib.Tactic
public import Idealize.ShloMosaic.Lib.Scf

@[expose] public section

noncomputable section

namespace Cert.KernelIdeal.Nsa

open Cert.KernelIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref of the core, of whatever space, shape and element type. -/
structure AnyRef where
  {sp : Space}
  {S : Shape}
  {e : EltTy}
  M : Memref sig .tc sp S e

/-- The memref's elements held whole, at some contents. -/
def AnyRef.held (F : FTy → Type) (c : Dev nD) (R : AnyRef) : sProp (MT nD τ sig Unit (Elt F) ℕ (UR sig nD τ) ℕ) :=
  iprop(∃ f : Buf (Elt F) (R.M.view.loc (c : Thread nD τ)), (R.M.view.loc (c : Thread nD τ)) ↦[R.M.view.set]{fullShare} f)

/-- Every memref of a list held so. -/
def held (F : FTy → Type) (c : Dev nD) : List AnyRef → sProp (MT nD τ sig Unit (Elt F) ℕ (UR sig nD τ) ℕ)
  | [] => iprop(⌜True⌝)
  | R :: L => iprop(R.held F c ∗ held F c L)

/-- One memref of the list, and what puts it back. -/
theorem held_mem (c : Dev nD) {R : AnyRef} : ∀ {L : List AnyRef}, R ∈ L → held F c L ⊢ iprop(R.held F c ∗ (R.held F c -∗ held F c L))
  | A :: L, h => by
    rcases List.mem_cons.mp h with rfl | h
    · unfold held
      iintro ⟨H, HL⟩
      isplitl [H]; · iexact H
      iintro H
      isplitl [H] <;> iassumption
    · have ih := held_mem c h
      unfold held
      iintro ⟨H, HL⟩
      ihave HL := ih $$ HL
      icases HL with ⟨HR, HL⟩
      isplitl [HR]; · iexact HR
      iintro HR
      isplitl [H]; · iexact H
      iapply HL; iexact HR

/-- The program keeps the buffers of `L`. -/
structure Keeps (c : Dev nD) (L : List AnyRef) {α : Type} (p : Prog (TpuEff nD τ sig (Elt F) Λ₀ .tc) α) : Prop where
  run : held F c L ⊢ wp frame (wpE (defs₀ (F := F)) Variants.none (c : Thread nD τ) none) Set.univ p (fun _ => held F c L)

namespace Keeps

variable {c : Dev nD} {L : List AnyRef} {α β : Type}

theorem ret (a : α) : Keeps (F := F) c L (pure a) := by
  constructor
  exact le_wp_ret _ _ _ a (fun _ => held F c L)

theorem bind {p : Prog (TpuEff nD τ sig (Elt F) Λ₀ .tc) α} {k : α → Prog (TpuEff nD τ sig (Elt F) Λ₀ .tc) β}
    (hp : Keeps c L p) (hk : ∀ a, Keeps c L (k a)) : Keeps c L (p >>= k) := by
  constructor
  rw [wp_bind]
  exact hp.run.trans (wp_mono _ _ _ fun a => (hk a).run)

theorem load {cs : CoreSpace} {S : Shape} {e : EltTy} {M : Memref sig .tc cs S e} {r : LoadRect S} {hl : M.view.LoadsAt r}
    (hM : (⟨M⟩ : AnyRef) ∈ L) : Keeps (F := F) c L (Prog.lift (.load M r hl)) := by
  constructor
  refine (held_mem c hM).trans ?_
  unfold AnyRef.held
  iintro ⟨⟨%f, H⟩, HL⟩
  iapply (wp_load (defs := defs₀ (F := F)) Variants.none (c : Thread nD τ) none Set.univ (View.setOn_subset_set _ _)) $$ H
  iintro H
  iapply (le_wp_ret frame _ _ _ (fun _ => held F c L))
  iapply HL
  iexists f; iexact H

theorem store {cs : CoreSpace} {S : Shape} {e : EltTy} {M : Memref sig .tc cs S e} {r : Rect S} {w : r.shape.Idx → Elt F e}
    {Mk : Finset r.shape.Idx} {hx : (M.access r).Stores Mk} {hm : Mk = Finset.univ ∨ ∀ a, r.stride a = 1}
    (hM : (⟨M⟩ : AnyRef) ∈ L) : Keeps (F := F) c L (Prog.lift (.store M r w Mk hx hm)) := by
  constructor
  refine (held_mem c hM).trans ?_
  unfold AnyRef.held
  iintro ⟨⟨%f, H⟩, HL⟩
  iapply (wp_store (defs := defs₀ (F := F)) Variants.none (c : Thread nD τ) none Set.univ (m := M) (r := r) (S := M.view.set)
    ((View.setOn_subset_set _ _).trans (View.set_slice_subset _ _))) $$ H
  iintro H
  iapply (le_wp_ret frame _ _ _ (fun _ => held F c L))
  iapply HL
  iexists _; iexact H

theorem word {S : Shape} {e : EltTy} {M : Memref sig .tc .smem S e} {r : Rect S} {h1 : r.shape.numel = 1} {hp : e.packing = 1}
    (hM : (⟨M⟩ : AnyRef) ∈ L) : Keeps (F := F) c L (smemLoad M r h1 hp) := by
  constructor
  refine (held_mem c hM).trans ?_
  unfold AnyRef.held smemLoad
  iintro ⟨⟨%f, H⟩, HL⟩
  iapply (wp_smemLoadElt (defs := defs₀ (F := F)) Variants.none (c : Thread nD τ) none Set.univ (m := M) (r := r)
    (x := Shape.Idx.first (h1.symm ▸ Nat.one_pos)) (k := .ret) (S := M.view.set) (View.set_slice_subset _ _)) $$ H
  iintro H
  iapply (le_wp_ret frame _ _ _ (fun _ => held F c L))
  iapply HL
  iexists f; iexact H

theorem dite {P : Prop} {_ : Decidable P} {p : P → Prog (TpuEff nD τ sig (Elt F) Λ₀ .tc) α} {q : ¬P → Prog (TpuEff nD τ sig (Elt F) Λ₀ .tc) α}
    (hp : ∀ h, Keeps c L (p h)) (hq : ∀ h, Keeps c L (q h)) : Keeps c L (if h : P then p h else q h) := by
  by_cases h : P
  · rw [dif_pos h]; exact hp h
  · rw [dif_neg h]; exact hq h

theorem ite {P : Prop} {_ : Decidable P} {p q : Prog (TpuEff nD τ sig (Elt F) Λ₀ .tc) α}
    (hp : Keeps c L p) (hq : Keeps c L q) : Keeps c L (if P then p else q) := by
  by_cases h : P
  · rw [if_pos h]; exact hp
  · rw [if_neg h]; exact hq

theorem loop {w : Nat} {l : Scf.Loop w} {hok : l.OK} {σ : Type} {init : σ} {body : Fin l.trips → σ → Prog (TpuEff nD τ sig (Elt F) Λ₀ .tc) σ}
    (hb : ∀ k acc, Keeps c L (body k acc)) : Keeps c L (Scf.Loop.for l hok init body) := by
  constructor
  refine BIBase.Entails.trans ?_ (Scf.wp_for frame _ _ _ _ _ hok init body (fun _ _ => held F c L) fun k acc => (hb k acc).run)
  iintro H
  isplitl [H]; · iexact H
  iintro %acc H
  iexact H

end Keeps

/-- A statement about every tuple, by its components. -/
theorem forall_tuple {α : Type} {β : α → Type} {P : (Σ' a, β a) → Prop} (h : ∀ a b, P ⟨a, b⟩) : ∀ x, P x := fun x => h x.1 x.2

end Cert.KernelIdeal.Nsa

end
-- ==== Proof.Body.lean ====
/-
  The attention body keeps its buffers: whichever branch it takes, it runs from its windows' staging buffers and its
  scratch, each at some contents, back to them, each at some contents.
-/
module

public import proofs.«01_k».proof.Proof.Keeps
public import proofs.«01_k».proof.Proof.Gen.KernelIdeal.Skeleton

@[expose] public section

set_option maxRecDepth 65536

noncomputable section

namespace Cert.KernelIdeal.Nsa

open Cert.KernelIdeal Cert.KernelIdeal.Gen
open Idealize.ShloMosaic Idealize.ShloMosaic.TcCoe Idealize.SL.Sem

variable {F : FTy → Type} [FloatOps F]

variable (i : grid0.Coords)
  (arg3 : Memref sig .tc .vmem S2048x256 .bf16) (harg3 : arg3.IsWhole)
  (arg4 : Memref sig .tc .vmem S2048x256 .bf16) (harg4 : arg4.IsWhole)
  (arg5 : Memref sig .tc .vmem S2048x256 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S128x128 .bf16) (harg9 : arg9.IsWhole)
  (arg10 : Memref sig .tc .vmem S64x128 .bf16) (harg10 : arg10.IsWhole)
  (arg11 : Memref sig .tc .vmem S2048x128 .bf16) (harg11 : arg11.IsWhole)
  (arg12 : Memref sig .tc .vmem S2560x128 .bf16) (harg12 : arg12.IsWhole)
  (arg13 : Memref sig .tc .vmem S1x8x8x128 .f32) (harg13 : arg13.IsWhole)
  (arg14 : Memref sig .tc .vmem S1x1024x128 .bf16) (harg14 : arg14.IsWhole)
  (arg15 : Memref sig .tc .vmem S256x128 .bf16) (harg15 : arg15.IsWhole)
  (arg16 : Memref sig .tc .vmem S128x128 .bf16) (harg16 : arg16.IsWhole)
  (arg17 : Memref sig .tc .vmem S32x128 .bf16) (harg17 : arg17.IsWhole)
  (arg18 : Memref sig .tc .vmem S1x256 .f32) (harg18 : arg18.IsWhole)
  (arg19 : Memref sig .tc .vmem S2048x256 .bf16) (harg19 : arg19.IsWhole)
  (arg20 : Memref sig .tc .vmem S2048x128 .bf16) (harg20 : arg20.IsWhole)
  (arg21 : Memref sig .tc .vmem S8x64x256 .bf16) (harg21 : arg21.IsWhole)
  (arg22 : Memref sig .tc .vmem S2560x128 .bf16) (harg22 : arg22.IsWhole)
  (arg23 : Memref sig .tc .vmem S10x64x256 .bf16) (harg23 : arg23.IsWhole)
  (arg24 : Memref sig .tc .vmem S8x128x256 .f32) (harg24 : arg24.IsWhole)
  (arg25 : Memref sig .tc .smem S1 .i32) (harg25 : arg25.IsWhole)

set_option maxHeartbeats 40000000 in
/-- The body at any point, on any memrefs, each of them in the list. -/
theorem body_keeps (c : Dev nD) (L : List AnyRef)
    (m3 : (⟨arg3⟩ : AnyRef) ∈ L) (m4 : (⟨arg4⟩ : AnyRef) ∈ L) (m5 : (⟨arg5⟩ : AnyRef) ∈ L) (m6 : (⟨arg6⟩ : AnyRef) ∈ L) (m7 : (⟨arg7⟩ : AnyRef) ∈ L) (m8 :
    (⟨arg8⟩ : AnyRef) ∈ L) (m9 : (⟨arg9⟩ : AnyRef) ∈ L) (m10 : (⟨arg10⟩ : AnyRef) ∈ L) (m11 : (⟨arg11⟩ : AnyRef) ∈ L) (m12 : (⟨arg12⟩ : AnyRef) ∈ L) (m13
    : (⟨arg13⟩ : AnyRef) ∈ L) (m14 : (⟨arg14⟩ : AnyRef) ∈ L) (m15 : (⟨arg15⟩ : AnyRef) ∈ L) (m16 : (⟨arg16⟩ : AnyRef) ∈ L) (m17 : (⟨arg17⟩ : AnyRef) ∈ L)
    (m18 : (⟨arg18⟩ : AnyRef) ∈ L) (m19 : (⟨arg19⟩ : AnyRef) ∈ L) (m20 : (⟨arg20⟩ : AnyRef) ∈ L) (m21 : (⟨arg21⟩ : AnyRef) ∈ L) (m22 : (⟨arg22⟩ : AnyRef)
    ∈ L) (m23 : (⟨arg23⟩ : AnyRef) ∈ L) (m24 : (⟨arg24⟩ : AnyRef) ∈ L) (m25 : (⟨arg25⟩ : AnyRef) ∈ L) :
    Keeps (F := F) c L
      (cc0_nsa (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) := by
  rw [cc0_nsa_eq_skeleton]
  unfold cc0_nsa_skel
  dsimp only
  repeat' (first
    | with_reducible refine Keeps.bind ?_ ?_
    | with_reducible refine Keeps.load ?_
    | with_reducible refine Keeps.store ?_
    | with_reducible exact Keeps.ret _
    | with_reducible refine forall_tuple fun _ => ?_
    | intro _
    | assumption
    | with_reducible refine Keeps.dite (fun _ => ?_) (fun _ => ?_)
    | with_reducible refine Keeps.ite ?_ ?_
    | with_reducible refine Keeps.loop fun _ _ => ?_
    | exact Keeps.word (by assumption)
    | simp only [k0_t1_body, k0_t2_body, k0_t3_body, k0_part1_eq_skeleton, k0_part1_skel, k0_part2_eq_skeleton, k0_part2_skel, k0_part3_eq_skeleton, k0_part3_skel, k0_part4_eq_skeleton, k0_part4_skel,
      k0_part5_eq_skeleton, k0_part5_skel, k0_part6_eq_skeleton, k0_part6_skel, k0_part7_eq_skeleton, k0_part7_skel, k0_part8_eq_skeleton, k0_part8_skel,
      k0_part9_eq_skeleton, k0_part9_skel, k0_part10_eq_skeleton, k0_part10_skel, k0_part11_eq_skeleton, k0_part11_skel, k0_part12_eq_skeleton,
      k0_part12_skel, k0_part13_eq_skeleton, k0_part13_skel, k0_part14_eq_skeleton, k0_part14_skel, k0_part15_eq_skeleton, k0_part15_skel,
      k0_part16_eq_skeleton, k0_part16_skel, k0_part17_eq_skeleton, k0_part17_skel, k0_part18_eq_skeleton, k0_part18_skel, k0_part19_eq_skeleton,
      k0_part19_skel, k0_part20_eq_skeleton, k0_part20_skel, k0_part21_eq_skeleton, k0_part21_skel, k0_part22_eq_skeleton, k0_part22_skel,
      k0_part23_eq_skeleton, k0_part23_skel, k0_part24_eq_skeleton, k0_part24_skel, k0_part25_eq_skeleton, k0_part25_skel, k0_part26_eq_skeleton,
      k0_part26_skel, k0_part27_eq_skeleton, k0_part27_skel, k0_part28_eq_skeleton, k0_part28_skel, k0_part29_eq_skeleton, k0_part29_skel,
      k0_part30_eq_skeleton, k0_part30_skel, k0_part31_eq_skeleton, k0_part31_skel, k0_part32_eq_skeleton, k0_part32_skel, k0_part33_eq_skeleton,
      k0_part33_skel, k0_part34_eq_skeleton, k0_part34_skel, k0_part35_eq_skeleton, k0_part35_skel, k0_part36_eq_skeleton, k0_part36_skel,
      k0_part37_eq_skeleton, k0_part37_skel, k0_part38_eq_skeleton, k0_part38_skel, k0_part39_eq_skeleton, k0_part39_skel, k0_part40_eq_skeleton,
      k0_part40_skel, k0_part41_eq_skeleton, k0_part41_skel, k0_part42_eq_skeleton, k0_part42_skel, k0_part43_eq_skeleton, k0_part43_skel,
      k0_part44_eq_skeleton, k0_part44_skel, k0_part45_eq_skeleton, k0_part45_skel, k0_part46_eq_skeleton, k0_part46_skel, k0_part47_eq_skeleton,
      k0_part47_skel, k0_part48_eq_skeleton, k0_part48_skel, k0_part49_eq_skeleton, k0_part49_skel, k0_part50_eq_skeleton, k0_part50_skel,
      k0_part51_eq_skeleton, k0_part51_skel, k0_part52_eq_skeleton, k0_part52_skel, k0_part53_eq_skeleton, k0_part53_skel, k0_part54_eq_skeleton,
      k0_part54_skel, k0_part55_eq_skeleton, k0_part55_skel, k0_part56_eq_skeleton, k0_part56_skel, k0_part57_eq_skeleton, k0_part57_skel,
      k0_part58_eq_skeleton, k0_part58_skel, k0_part59_eq_skeleton, k0_part59_skel, k0_part60_eq_skeleton, k0_part60_skel, k0_part61_eq_skeleton,
      k0_part61_skel, k0_part62_eq_skeleton, k0_part62_skel, k0_part63_eq_skeleton, k0_part63_skel, k0_part64_eq_skeleton, k0_part64_skel,
      k0_part65_eq_skeleton, k0_part65_skel, k0_part66_eq_skeleton, k0_part66_skel, k0_part67_eq_skeleton, k0_part67_skel, k0_part68_eq_skeleton,
      k0_part68_skel, k0_part69_eq_skeleton, k0_part69_skel, k0_part70_eq_skeleton, k0_part70_skel, k0_part71_eq_skeleton, k0_part71_skel,
      k0_part72_eq_skeleton, k0_part72_skel, k0_part73_eq_skeleton, k0_part73_skel, k0_part74_eq_skeleton, k0_part74_skel, k0_part75_eq_skeleton,
      k0_part75_skel, k0_part76_eq_skeleton, k0_part76_skel, k0_part77_eq_skeleton, k0_part77_skel, k0_part78_eq_skeleton, k0_part78_skel,
      k0_part79_eq_skeleton, k0_part79_skel, k0_part80_eq_skeleton, k0_part80_skel, k0_part81_eq_skeleton, k0_part81_skel, k0_part82_eq_skeleton,
      k0_part82_skel, k0_part83_eq_skeleton, k0_part83_skel, k0_part84_eq_skeleton, k0_part84_skel, k0_part85_eq_skeleton, k0_part85_skel,
      k0_part86_eq_skeleton, k0_part86_skel, k0_part87_eq_skeleton, k0_part87_skel, k0_part88_eq_skeleton, k0_part88_skel, k0_part89_eq_skeleton,
      k0_part89_skel, k0_part90_eq_skeleton, k0_part90_skel, k0_part91_eq_skeleton, k0_part91_skel, k0_part92_eq_skeleton, k0_part92_skel,
      k0_part93_eq_skeleton, k0_part93_skel, k0_part94_eq_skeleton, k0_part94_skel, k0_part95_eq_skeleton, k0_part95_skel, k0_part96_eq_skeleton,
      k0_part96_skel, k0_part97_eq_skeleton, k0_part97_skel, k0_part98_eq_skeleton, k0_part98_skel, k0_part99_eq_skeleton, k0_part99_skel,
      k0_part100_eq_skeleton, k0_part100_skel, k0_part101_eq_skeleton, k0_part101_skel, k0_part102_eq_skeleton, k0_part102_skel, k0_part103_eq_skeleton,
      k0_part103_skel, k0_part104_eq_skeleton, k0_part104_skel, k0_part105_eq_skeleton, k0_part105_skel, k0_part106_eq_skeleton, k0_part106_skel,
      k0_part107_eq_skeleton, k0_part107_skel, k0_part108_eq_skeleton, k0_part108_skel, k0_part109_eq_skeleton, k0_part109_skel, k0_part110_eq_skeleton,
      k0_part110_skel, k0_part111_eq_skeleton, k0_part111_skel, k0_part112_eq_skeleton, k0_part112_skel, k0_part113_eq_skeleton, k0_part113_skel,
      k0_part114_eq_skeleton, k0_part114_skel, k0_part115_eq_skeleton, k0_part115_skel, k0_part116_eq_skeleton, k0_part116_skel, k0_part117_eq_skeleton,
      k0_part117_skel, k0_part118_eq_skeleton, k0_part118_skel, k0_part119_eq_skeleton, k0_part119_skel, k0_part120_eq_skeleton, k0_part120_skel,
      k0_part121_eq_skeleton, k0_part121_skel, k0_part122_eq_skeleton, k0_part122_skel, k0_part123_eq_skeleton, k0_part123_skel, k0_part124_eq_skeleton,
      k0_part124_skel, k0_part125_eq_skeleton, k0_part125_skel, k0_part126_eq_skeleton, k0_part126_skel, k0_part127_eq_skeleton, k0_part127_skel,
      k0_part128_eq_skeleton, k0_part128_skel, k0_part129_eq_skeleton, k0_part129_skel, k0_part130_eq_skeleton, k0_part130_skel, k0_part131_eq_skeleton,
      k0_part131_skel, k0_part132_eq_skeleton, k0_part132_skel, k0_part133_eq_skeleton, k0_part133_skel, k0_part134_eq_skeleton, k0_part134_skel,
      k0_part135_eq_skeleton, k0_part135_skel, k0_part136_eq_skeleton, k0_part136_skel, k0_part137_eq_skeleton, k0_part137_skel, k0_part138_eq_skeleton,
      k0_part138_skel, k0_part139_eq_skeleton, k0_part139_skel, k0_part140_eq_skeleton, k0_part140_skel, k0_part141_eq_skeleton, k0_part141_skel,
      k0_part142_eq_skeleton, k0_part142_skel, k0_part143_eq_skeleton, k0_part143_skel, k0_part144_eq_skeleton, k0_part144_skel, k0_part145_eq_skeleton,
      k0_part145_skel, k0_part146_eq_skeleton, k0_part146_skel, k0_part147_eq_skeleton, k0_part147_skel, k0_part148_eq_skeleton, k0_part148_skel,
      k0_part149_eq_skeleton, k0_part149_skel, k0_part150_eq_skeleton, k0_part150_skel, k0_part151_eq_skeleton, k0_part151_skel])

end Cert.KernelIdeal.Nsa

end
-- ==== Proof.Run.lean ====
/-
  The run of the attention program and its frame. What the body leaves in the output is not named: every window's
  buffer is handed to it at some contents and taken back at some contents, and the frame reads the arrays only.
-/
module

public import proofs.«01_k».proof.Proof.Body
public import proofs.«01_k».proof.Proof.Gen.KernelIdeal.Frame

@[expose] public section

set_option maxRecDepth 16384

noncomputable section

namespace Cert.KernelIdeal.Nsa

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's buffer owned at some read contents is held at some contents, -/
theorem held_of_owns (c : Dev nD) {sp : Space} {S : Shape} {e : EltTy} (M : Memref sig .tc sp S e) :
    (iprop(∃ X, owns (c : Thread nD τ) M fullShare X) : sProp 𝕄) ⊢ (⟨M⟩ : AnyRef).held F c := by
  unfold owns AnyRef.held
  iintro ⟨%X, %f, -, H⟩
  iexists f; iexact H

/-- and back. -/
theorem owns_of_held (c : Dev nD) {sp : Space} {S : Shape} {e : EltTy} (M : Memref sig .tc sp S e) :
    (⟨M⟩ : AnyRef).held F c ⊢ (iprop(∃ X, owns (c : Thread nD τ) M fullShare X) : sProp 𝕄) := by
  unfold owns AnyRef.held
  iintro ⟨%f, H⟩
  iexists _; iexists f
  isplitr; · ipureintro; rfl
  iexact H

/-- A scratch buffer whole at some contents is held, -/
theorem held_of_whole (c : Dev nD) (b : Ref sig .tc) :
    (iprop(∃ f : Buf (Elt F) ((c : Thread nD τ).loc b), ((c : Thread nD τ).loc b) ↦{fullShare} f) : sProp 𝕄)
      ⊢ (⟨Memref.whole b⟩ : AnyRef).held F c := by
  unfold AnyRef.held
  rw [show (Memref.whole b).view.set = Finset.univ from View.set_whole b]

/-- and back. -/
theorem whole_of_held (c : Dev nD) (b : Ref sig .tc) :
    (⟨Memref.whole b⟩ : AnyRef).held F c
      ⊢ (iprop(∃ f : Buf (Elt F) ((c : Thread nD τ).loc b), ((c : Thread nD τ).loc b) ↦{fullShare} f) : sProp 𝕄) := by
  unfold AnyRef.held
  rw [show (Memref.whole b).view.set = Finset.univ from View.set_whole b]

/-- The proof data: the arrays as the region finds them, the class's invariant, nothing owed, no contents named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- Every window is left unnamed. -/
abbrev allUnnamed : Fin cfg0.W → Bool := fun _ => true

theorem defs₀_row (t : Fin cfg0.N) :
    defs₀ (F := F) .tc cfg0.body (cfg0.bodyArgs t (cfg0.slots t)) = bodyAt0 t := by
  unfold defs₀; rw [Defs.onTc_tc]

/-- The buffers the body is called with at point `t`. -/
abbrev bufs (t : Fin cfg0.N) : List AnyRef :=
  [⟨(cfg0.win 0).stage (cfg0.slots t 0)⟩, ⟨(cfg0.win 1).stage (cfg0.slots t 1)⟩, ⟨(cfg0.win 2).stage (cfg0.slots t 2)⟩, ⟨(cfg0.win 3).stage (cfg0.slots t 3)⟩, ⟨(cfg0.win 4).stage (cfg0.slots t 4)⟩, ⟨(cfg0.win 5).stage (cfg0.slots t 5)⟩, ⟨(cfg0.win 6).stage (cfg0.slots t 6)⟩, ⟨(cfg0.win 7).stage (cfg0.slots t 7)⟩, ⟨(cfg0.win 8).stage (cfg0.slots t 8)⟩, ⟨(cfg0.win 9).stage (cfg0.slots t 9)⟩, ⟨(cfg0.win 10).stage (cfg0.slots t 10)⟩, ⟨(cfg0.win 11).stage (cfg0.slots t 11)⟩, ⟨(cfg0.win 12).stage (cfg0.slots t 12)⟩, ⟨(cfg0.win 13).stage (cfg0.slots t 13)⟩, ⟨(cfg0.win 14).stage (cfg0.slots t 14)⟩, ⟨(cfg0.win 15).stage (cfg0.slots t 15)⟩, ⟨(cfg0.win 16).stage (cfg0.slots t 16)⟩,
   ⟨Memref.whole cc0_scratch0⟩, ⟨Memref.whole cc0_scratch1⟩, ⟨Memref.whole cc0_scratch2⟩, ⟨Memref.whole cc0_scratch3⟩, ⟨Memref.whole cc0_scratch4⟩, ⟨Memref.whole cc0_scratch5⟩]

/-- The body at a point of the grid, from its buffers to its buffers. -/
theorem body_at (c : Dev nD) (t : Fin cfg0.N) : Keeps (F := F) c (bufs t) (bodyAt0 t) := by
  apply body_keeps <;> (repeat' first | exact List.Mem.head _ | apply List.Mem.tail)

/-- What the body is handed at a point and hands back: the invariant, nothing owed, and every window's buffer. -/
def bodyRes (c : Dev nD) (t : Fin cfg0.N) : sProp 𝕄 :=
  iprop(Pipeline.ΦA spec0 c ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))

/-- The body's triple at a point. -/
theorem sound_body (c : Dev nD) (t : Fin cfg0.N) :
    bodyRes (F := F) m c t ⊢ wp frame (wpE (defs₀ (F := F)) Variants.none c none) Set.univ (bodyAt0 t) (fun _ => bodyRes m c t) := by
  unfold bodyRes Pipeline.ΦA
  rw [scopedRest0_eq]
  have hb := (body_at (F := F) c t).run
  iintro ⟨⟨⟨S0, S1, S2, S3, S4, S5⟩, Hr⟩, Ho, H0, H1, H2, H3, H4, H5, H6, H7, H8, H9, H10, H11, H12, H13, H14, H15, H16⟩
  iapply (wp_wand_r frame _ _)
  isplitl [H0 H1 H2 H3 H4 H5 H6 H7 H8 H9 H10 H11 H12 H13 H14 H15 H16 S0 S1 S2 S3 S4 S5]
  · iapply hb
    simp only [bufs, held]
    isplitl [H0]; · iapply held_of_owns; iexact H0
    isplitl [H1]; · iapply held_of_owns; iexact H1
    isplitl [H2]; · iapply held_of_owns; iexact H2
    isplitl [H3]; · iapply held_of_owns; iexact H3
    isplitl [H4]; · iapply held_of_owns; iexact H4
    isplitl [H5]; · iapply held_of_owns; iexact H5
    isplitl [H6]; · iapply held_of_owns; iexact H6
    isplitl [H7]; · iapply held_of_owns; iexact H7
    isplitl [H8]; · iapply held_of_owns; iexact H8
    isplitl [H9]; · iapply held_of_owns; iexact H9
    isplitl [H10]; · iapply held_of_owns; iexact H10
    isplitl [H11]; · iapply held_of_owns; iexact H11
    isplitl [H12]; · iapply held_of_owns; iexact H12
    isplitl [H13]; · iapply held_of_owns; iexact H13
    isplitl [H14]; · iapply held_of_owns; iexact H14
    isplitl [H15]; · iapply held_of_owns; iexact H15
    isplitl [H16]; · iapply held_of_owns; iexact H16
    isplitl [S0]; · iapply held_of_whole; iexact S0
    isplitl [S1]; · iapply held_of_whole; iexact S1
    isplitl [S2]; · iapply held_of_whole; iexact S2
    isplitl [S3]; · iapply held_of_whole; iexact S3
    isplitl [S4]; · iapply held_of_whole; iexact S4
    isplitl [S5]; · iapply held_of_whole; iexact S5
    ipureintro; trivial
  iintro %_ H
  simp only [bufs, held]
  icases H with ⟨H0, H1, H2, H3, H4, H5, H6, H7, H8, H9, H10, H11, H12, H13, H14, H15, H16, S0, S1, S2, S3, S4, S5, -⟩
  isplitl [S0 S1 S2 S3 S4 S5 Hr]
  · isplitl [S0 S1 S2 S3 S4 S5]
    · isplitl [S0]; · iapply whole_of_held; iexact S0
      isplitl [S1]; · iapply whole_of_held; iexact S1
      isplitl [S2]; · iapply whole_of_held; iexact S2
      isplitl [S3]; · iapply whole_of_held; iexact S3
      isplitl [S4]; · iapply whole_of_held; iexact S4
      iapply whole_of_held; iexact S5
    iexact Hr
  isplitl [Ho]; · iexact Ho
  isplitl [H0]; · iapply owns_of_held; iexact H0
  isplitl [H1]; · iapply owns_of_held; iexact H1
  isplitl [H2]; · iapply owns_of_held; iexact H2
  isplitl [H3]; · iapply owns_of_held; iexact H3
  isplitl [H4]; · iapply owns_of_held; iexact H4
  isplitl [H5]; · iapply owns_of_held; iexact H5
  isplitl [H6]; · iapply owns_of_held; iexact H6
  isplitl [H7]; · iapply owns_of_held; iexact H7
  isplitl [H8]; · iapply owns_of_held; iexact H8
  isplitl [H9]; · iapply owns_of_held; iexact H9
  isplitl [H10]; · iapply owns_of_held; iexact H10
  isplitl [H11]; · iapply owns_of_held; iexact H11
  isplitl [H12]; · iapply owns_of_held; iexact H12
  isplitl [H13]; · iapply owns_of_held; iexact H13
  isplitl [H14]; · iapply owns_of_held; iexact H14
  isplitl [H15]; · iapply owns_of_held; iexact H15
  iapply owns_of_held; iexact H16

theorem body_obligation (c : Dev nD) :
    BodyObligationLoose (dats (F := F) m 0 c) (defs₀ (F := F)) Variants.none () Set.univ allUnnamed := fun t => by
  refine triple_restated (sound_body m c t) (congrArg _ (defs₀_row t).symm) ?_ fun _ => ?_
  · rw [bigSep_W0]; exact .rfl
  · rw [bigSep_W0]; exact .rfl

set_option backward.isDefEq.respectTransparency.types false in
/-- The launch, and every semaphore counter at zero at its end. -/
theorem run_main_quiescent : θ_run defs (onTc (τ := τ) (main (F := F))) (s₀ m ρ)
    (fun r => Pipeline.RDat.FramePost cfg0 (fun c => (dats m 0 c).toRForget allUnnamed) (V m) r ∧ r.2.sem = fun _ => 0) :=
  Pipeline.θ_run_frame_forget_shared (Q' := _) cfgs (dats m) (0 : Fin 1) launch₀0 defs₀ Variants.none allUnnamed m ρ main
    (hbody := fun c => body_obligation m c) (hq := fun _ _ _ => rfl)
    (howed := fun _ _ => rfl) (V := V m) (hmain := hmain m Variants.none) (hA := A_eq m) (hΦ := fun _ _ => rfl)
    (hQ' := fun _ h => h)

set_option maxHeartbeats 1020000 in
/-- The frame at any float values: the arguments end as launched and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 15 rfl).trans ((A_eq m c 15).trans (V_main_arg9 m c))⟩, h.2⟩) (run_main_quiescent m ρ)

end Cert.KernelIdeal.Nsa

end
-- ==== Proof.Same.lean ====
/-
  The attention program as written and its ideal text are one program: the frame of the one, at the bits, is the frame
  of the other, at the bits.
-/
module

public import proofs.«01_k».proof.Defs
public import proofs.«01_k».proof.Proof.Gen.Kernel
public import proofs.«01_k».proof.Proof.Run
public import Idealize.ShloMosaic.Lib.Pipeline.Regions

@[expose] public section

set_option maxRecDepth 65536

noncomputable section

namespace Cert.Proof

open Idealize.ShloMosaic Idealize.ShloMosaic.TcCoe Idealize.SL.Sem
open Cert.KernelIdeal

/-- The frame of the ideal text, at the bits. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- The two claims are the same, the two programs being the same text. -/
theorem frameBits_eq : FrameBits = Cert.quiescent_Kernel := by chain_rfl

/-- The frame of the program as written: the run of its ideal text, taken at the bits. -/
theorem frame_kernel : Cert.quiescent_Kernel :=
  frameBits_eq.mp fun m ρ _ => Cert.KernelIdeal.Nsa.frame (F := Bits) m ρ

end Cert.Proof

end
-- ==== Proof.Out.lean ====
/-
  The output projection's value: what the kernel leaves in its result array is the reference's composed term of the
  same five arguments, at `Ideal`.

  A grid point takes 512 rows. It adds to its rows of the residual stream the product of the attention mixer's columns
  with the upper half of the weights and that of the recurrent mixer's columns with the lower half, and normalises each
  row by its root mean square. The reference concatenates the two mixers' outputs and multiplies once by the whole
  weight: the sum over 2048 columns, cut in two at 1024, is the kernel's two sums.
-/
module

public import proofs.«01_k».proof.Proof.Gen.Kernel2Ideal.Value
public import proofs.«01_k».proof.Proof.Gen.Reference2Ideal.Run
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The reference's term -/

namespace Cert.Reference2Ideal.Term

open Cert.Reference2Ideal Cert.Reference2Ideal.Gen

/-- The residual stream plus the mixers' outputs through the output projection. -/
def mixed (x : FVec Ideal S8x2048x2048 .f32) (oa oh : FVec Ideal S8x2048x1024 .f32) (w : FVec Ideal S1x2048x2048 .f32) :
    FVec Ideal S8x2048x2048 .f32 :=
  addf x (Host.dotGeneral dot_S8x2048x2048_S2048x2048_S8x2048x2048_2_0_01_1_n_n none
    (concatenate S8x2048x2048 2 [⟨S8x2048x1024, oa⟩, ⟨S8x2048x1024, oh⟩] concatenates_S8x2048x1024_S8x2048x1024_S8x2048x2048_d2)
    (shapeCast _ w shapeCasts_S1x2048x2048_S2048x2048))

/-- One entry of it, the sum over the 2048 mixer columns cut where the one mixer ends. -/
theorem mixed_at (x : FVec Ideal S8x2048x2048 .f32) (oa oh : FVec Ideal S8x2048x1024 .f32) (w : FVec Ideal S1x2048x2048 .f32)
    (b : Fin 8) (s l : Fin 2048) :
    mixed x oa oh w (ix3 b s l) = x (ix3 b s l)
      + ∑ k : Fin 1024, oa (ix3 b s k) * w (ix3 0 ⟨k.val, by omega⟩ l)
      + ∑ k : Fin 1024, oh (ix3 b s k) * w (ix3 0 ⟨1024 + k.val, by omega⟩ l) := by
  pointwise [mixed]
  exact (add_assoc _ _ _).symm

/-- The reference's result: each row of `mixed` over its root mean square, scaled by the gains. -/
def out (x : FVec Ideal S8x2048x2048 .f32) (oa oh : FVec Ideal S8x2048x1024 .f32) (w : FVec Ideal S1x2048x2048 .f32)
    (g : FVec Ideal S2048 .f32) : FVec Ideal S16384x2048 .f32 :=
  shapeCast _ (mulf (mulf (mixed x oa oh w) (broadcastInDim S8x2048x2048 ![0, 1, 2] bcast_S8x2048x1_S8x2048x2048_0_1_2
    (Host.rsqrt (addf (Host.divf (broadcastInDim S8x2048x1 ![0, 1] bcast_S8x2048_S8x2048x1_0_1
      (Host.reduceAdd (mulf (mixed x oa oh w) (mixed x oa oh w)) (constant S_ .f32 0x00000000#32)
        reducesTo_S8x2048x2048_S8x2048_d2 h_S_))
      (broadcastInDim S8x2048x1 ![] bcast_S_S8x2048x1 (constant S_ .f32 0x45000000#32)))
      (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 g))) shapeCasts_S8x2048x2048_S16384x2048

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold out mixed
  exact Cert.Reference2Ideal.Value.run m ρ

end Cert.Reference2Ideal.Term

/-! ## The kernel's result array -/

namespace Cert.Kernel2Ideal.Out

open Cert.Kernel2Ideal Cert.Kernel2Ideal.Gen
open Cert.Reference2Ideal.Term (mixed mixed_at out)

variable (m : (ℓ : Loc nD τ sig) → Buf (Elt Ideal) ℓ)

/-- The block every window is at, at each of the 32 points: the row windows move with the point, the weights and the
    gains stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- The array row that row `r` of point `t`'s block is. -/
def row (t : Fin cfg0.N) (r : Fin 512) : Fin 16384 :=
  ⟨t.val * 512 + r.val, by have h := t.isLt; have h' : cfg0.N = 32 := N_0; omega⟩

/-- The host's operations on the arguments: the batch and sequence axes merged into rows, the weight cut in its two
    halves, the gains a row. A change of format changes nothing at `Ideal`. -/
def xRows (x : FVec Ideal S8x2048x2048 .f32) : FVec Ideal S16384x2048 .f32 :=
  shapeCast S16384x2048 x shapeCasts_S8x2048x2048_S16384x2048
def oRows (o : FVec Ideal S8x2048x1024 .f32) : FVec Ideal S16384x1024 .bf16 :=
  truncf .bf16 (shapeCast S16384x1024 o shapeCasts_S8x2048x1024_S16384x1024) bitsLt_bf16_f32
def wBoth (w : FVec Ideal S1x2048x2048 .f32) : FVec Ideal S2048x2048 .bf16 :=
  truncf .bf16 (shapeCast S2048x2048 w shapeCasts_S1x2048x2048_S2048x2048) bitsLt_bf16_f32
def wUpper (w : FVec Ideal S1x2048x2048 .f32) : FVec Ideal S1024x2048 .bf16 :=
  extractStridedSlice S1024x2048 ![0, 0] (wBoth w) slices_S2048x2048_S1024x2048_0_0
def wLower (w : FVec Ideal S1x2048x2048 .f32) : FVec Ideal S1024x2048 .bf16 :=
  extractStridedSlice S1024x2048 ![1024, 0] (wBoth w) slices_S2048x2048_S1024x2048_1024_0
def gRow (g : FVec Ideal S2048 .f32) : FVec Ideal S1x2048 .f32 := shapeCast S1x2048 g shapeCasts_S2048_S1x2048

theorem xRows_at (x : FVec Ideal S8x2048x2048 .f32) (R : Fin 16384) (l : Fin 2048) :
    xRows x (ix2 R l) = x (ix3 ⟨R.val / 2048, by omega⟩ ⟨R.val % 2048, by omega⟩ l) := by pointwise [xRows]
theorem oRows_at (o : FVec Ideal S8x2048x1024 .f32) (R : Fin 16384) (l : Fin 1024) :
    oRows o (ix2 R l) = o (ix3 ⟨R.val / 2048, by omega⟩ ⟨R.val % 2048, by omega⟩ l) := by pointwise [oRows]
theorem wUpper_at (w : FVec Ideal S1x2048x2048 .f32) (k : Fin 1024) (l : Fin 2048) :
    wUpper w (ix2 k l) = w (ix3 0 ⟨k.val, by omega⟩ l) := by pointwise [wUpper, wBoth]
theorem wLower_at (w : FVec Ideal S1x2048x2048 .f32) (k : Fin 1024) (l : Fin 2048) :
    wLower w (ix2 k l) = w (ix3 0 ⟨1024 + k.val, by omega⟩ l) := by pointwise [wLower, wBoth]
theorem gRow_at (g : FVec Ideal S2048 .f32) (l : Fin 2048) : gRow g (ix2 0 l) = g (ix1 l) := by pointwise [gRow]

/-- The call's operands as the region finds them. -/
theorem V_x (c : Dev nD) : V m c main_v2 = xRows (m ((c : Thread nD τ).loc main_arg0)) := by
  unfold V; after_results; try rfl
theorem V_oa (c : Dev nD) : V m c main_v4 = oRows (m ((c : Thread nD τ).loc main_arg1)) := by
  unfold V; after_results; try rfl
theorem V_oh (c : Dev nD) : V m c main_v6 = oRows (m ((c : Thread nD τ).loc main_arg2)) := by
  unfold V; after_results; try rfl
theorem V_wa (c : Dev nD) : V m c main_v7 = wUpper (m ((c : Thread nD τ).loc main_arg3)) := by
  unfold V; after_results; try rfl
theorem V_wh (c : Dev nD) : V m c main_v8 = wLower (m ((c : Thread nD τ).loc main_arg3)) := by
  unfold V; after_results; try rfl
theorem V_g (c : Dev nD) : V m c main_v9 = gRow (m ((c : Thread nD τ).loc main_arg4)) := by
  unfold V; after_results; try rfl

/-- Each operand's block at an index. -/
theorem x_at (c : Dev nD) (t : Fin cfg0.N) (r : Fin 512) (l : Fin 2048) :
    iblk m c 0 t (ix2 r l) = m ((c : Thread nD τ).loc main_arg0) (ix3 ⟨(row t r).val / 2048, by omega⟩ ⟨(row t r).val % 2048, by omega⟩ l) := by
  have e : iblk m c 0 t (ix2 r l) = V m c main_v2 (ix2 (row t r) l) := by blk_ext [iblk, idx t, row]
  exact e.trans ((congrFun (V_x m c) _).trans (xRows_at _ _ _))
theorem oa_at (c : Dev nD) (t : Fin cfg0.N) (r : Fin 512) (l : Fin 1024) :
    iblk m c 1 t (ix2 r l) = m ((c : Thread nD τ).loc main_arg1) (ix3 ⟨(row t r).val / 2048, by omega⟩ ⟨(row t r).val % 2048, by omega⟩ l) := by
  have e : iblk m c 1 t (ix2 r l) = V m c main_v4 (ix2 (row t r) l) := by blk_ext [iblk, idx t, row]
  exact e.trans ((congrFun (V_oa m c) _).trans (oRows_at _ _ _))
theorem oh_at (c : Dev nD) (t : Fin cfg0.N) (r : Fin 512) (l : Fin 1024) :
    iblk m c 2 t (ix2 r l) = m ((c : Thread nD τ).loc main_arg2) (ix3 ⟨(row t r).val / 2048, by omega⟩ ⟨(row t r).val % 2048, by omega⟩ l) := by
  have e : iblk m c 2 t (ix2 r l) = V m c main_v6 (ix2 (row t r) l) := by blk_ext [iblk, idx t, row]
  exact e.trans ((congrFun (V_oh m c) _).trans (oRows_at _ _ _))
theorem wa_at (c : Dev nD) (t : Fin cfg0.N) (k : Fin 1024) (l : Fin 2048) :
    iblk m c 3 t (ix2 k l) = m ((c : Thread nD τ).loc main_arg3) (ix3 0 ⟨k.val, by omega⟩ l) := by
  have e : iblk m c 3 t (ix2 k l) = V m c main_v7 (ix2 k l) := by blk_ext [iblk, idx t]
  exact e.trans ((congrFun (V_wa m c) _).trans (wUpper_at _ _ _))
theorem wh_at (c : Dev nD) (t : Fin cfg0.N) (k : Fin 1024) (l : Fin 2048) :
    iblk m c 4 t (ix2 k l) = m ((c : Thread nD τ).loc main_arg3) (ix3 0 ⟨1024 + k.val, by omega⟩ l) := by
  have e : iblk m c 4 t (ix2 k l) = V m c main_v8 (ix2 k l) := by blk_ext [iblk, idx t]
  exact e.trans ((congrFun (V_wh m c) _).trans (wLower_at _ _ _))
theorem g_at (c : Dev nD) (t : Fin cfg0.N) (l : Fin 2048) :
    iblk m c 5 t (ix2 0 l) = m ((c : Thread nD τ).loc main_arg4) (ix1 l) := by
  have e : iblk m c 5 t (ix2 0 l) = V m c main_v9 (ix2 0 l) := by blk_ext [iblk, idx t]
  exact e.trans ((congrFun (V_g m c) _).trans (gRow_at _ _))

/-- Where index `y` of point `t`'s result block sits in the result array. -/
theorem emb_eq (t : Fin cfg0.N) (r : Fin 512) (l : Fin 2048) :
    ((cfg0.win 6).blk t).view.emb (ix2 r l) = (ix2 (row t r) l : S16384x2048.Idx) := by
  blk_ext [idx t, row]

/-- What point `t` stores at an index of its block is the reference's result at the index it sits at. -/
theorem point (c : Dev nD) (t : Fin cfg0.N) (r : Fin 512) (l : Fin 2048) :
    k0_pay1 (iblk m c 0 t) (iblk m c 1 t) (iblk m c 3 t) (iblk m c 2 t) (iblk m c 4 t) (iblk m c 5 t) (ix2 r l)
    = out (m ((c : Thread nD τ).loc main_arg0)) (m ((c : Thread nD τ).loc main_arg1)) (m ((c : Thread nD τ).loc main_arg2))
        (m ((c : Thread nD τ).loc main_arg3)) (m ((c : Thread nD τ).loc main_arg4)) (ix2 (row t r) l) := by
  pointwise [k0_pay1, out, mixed_at, x_at, oa_at, oh_at, wa_at, wh_at, g_at]

/-- The result array after the run: the reference's term of the launch arguments. -/
theorem final (c : Dev nD) : (dats m 0 c).arrAt 6 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  idx_vars y
  rw [emb_eq]
  exact point m c t _ _

/-- The two runs end at one result, from memories that agree on the arguments. -/
theorem algebraic : Cert.algebraic_Kernel2Ideal_Reference2Ideal := by
  intro m g m' g' _ hagree
  refine ⟨fun c => out (m ((c : Thread nD τ).loc main_arg0)) (m ((c : Thread nD τ).loc main_arg1)) (m ((c : Thread nD τ).loc main_arg2))
    (m ((c : Thread nD τ).loc main_arg3)) (m ((c : Thread nD τ).loc main_arg4)), ?_, ?_⟩
  · exact (θ_run Cert.Kernel2Ideal.defs _ _).mono (fun _ h c => ⟨(h c).1.trans (final m c), (h c).2⟩)
      (Cert.Kernel2Ideal.Value.run_blocks m g)
  · refine (θ_run Cert.Reference2Ideal.defs _ _).mono (fun _ h c => ⟨(h c).1.trans ?_, (h c).2⟩)
      (Cert.Reference2Ideal.Term.run m' g')
    obtain ⟨h0, h1, h2, h3, h4⟩ := hagree c
    rw [h0, h1, h2, h3, h4]

end Cert.Kernel2Ideal.Out

end
-- ==== Proof.ProjBody.lean ====
/-
  The projection's body. At the first of a row block's five points it normalises the block's 1024 rows, 128 at a time,
  into the scratch, and multiplies them by the gate columns of the weight; at each of the five it multiplies the
  scratch by one block of columns, stored as bfloat16 at the first three points and as float32 at the last two.
-/
module

public import proofs.«01_k».proof.Proof.Gen.Kernel3Ideal.Frame
public import proofs.«01_k».proof.Proof.Gen.Kernel3Ideal.Skeleton
public import proofs.«01_k».proof.Proof.Gen.Kernel3Ideal.Points
public import proofs.«01_k».proof.Proof.Gen.Kernel3Ideal.Loops
public import Idealize.ShloMosaic.Lib.Pipeline.ValueKit
public import Idealize.ShloMosaic.Lib.Pipeline.TableIdle
public import Idealize.ShloMosaic.Lib.VecWindow

@[expose] public section

set_option maxRecDepth 16384

noncomputable section

namespace Cert.Kernel3Ideal.Proj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The normalised rows -/

/-- Rows `128 n … 128 n + 127` of a block. -/
def chunk (X : Vec F S1024x2048 .f32) (n : Fin 8) : Vec F S128x2048 .f32 :=
  fun y => X (ix2 ⟨128 * n.val + (y 0).val, by have h : (y 0).val < 128 := (y 0).isLt; omega⟩ (y 1))

/-- A block's rows, each normalised with the gains: chunk by chunk what one trip of the loop stores. -/
def rows (X : Vec F S1024x2048 .f32) (g : Vec F S1x2048 .f32) : Vec F S1024x2048 .bf16 :=
  fun j => k0_pay1 (chunk X ⟨(j 0).val / 128, by have h : (j 0).val < 1024 := (j 0).isLt; omega⟩) g
    (ix2 ⟨(j 0).val % 128, Nat.mod_lt _ (by decide)⟩ (j 1))

section
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x1536 .bf16) (harg4 : arg4.IsWhole) (arg5 : Memref sig .tc .vmem S2048x128 .bf16) (harg5 : arg5.IsWhole)
  (arg6 : Memref sig .tc .vmem S1024x1536 .bf16) (harg6 : arg6.IsWhole) (arg7 : Memref sig .tc .vmem S1024x1536 .f32) (harg7 : arg7.IsWhole)
  (arg8 : Memref sig .tc .vmem S1024x128 .f32) (harg8 : arg8.IsWhole) (arg9 : Memref sig .tc .vmem S1024x2048 .bf16) (harg9 : arg9.IsWhole)

theorem trips_eq : k0_t1_loop.trips = 8 := by decide +kernel

/-- One trip's store: the chunk's rows, normalised. -/
theorem trip_eq (𝒱 : Variants) (bd : Option 𝒱.V) (h1 : k0_cond1 i = 1#1) (X2 : BufTy.Contents (Elt F) arg2.view.ty) (X3 : BufTy.Contents (Elt F) arg3.view.ty)
    (k : Fin k0_t1_loop.trips) (hk : k.val < 8) :
    tripL_k0_t1 𝒱 c bd i arg2 harg2 arg3 harg3 arg4 harg4 arg5 harg5 arg6 harg6 arg7 harg7 arg8 harg8 arg9 harg9 h1 X2 X3 k
      = [⟨Rect.unit (s := S1024x2048) (k0_off1 k) S128x2048.size (k0_off1_inb i k h1),
          k0_pay1 (chunk (arg2.view.read (Elt F) X2) ⟨k.val, hk⟩) (arg3.view.read (Elt F) X3)⟩] := by
  unfold tripL_k0_t1 trip_k0_t1
  dsimp only
  have e2 : View.readAt (Elt F) arg2.view (Rect.unit (s := S1024x2048) (k0_off1 k) S128x2048.size (k0_off1_inb i k h1)).toLoadRect X2
      = chunk (arg2.view.read (Elt F) X2) ⟨k.val, hk⟩ := by
    rw [View.readAt_unit arg2.view X2 _ (k0_off1_eq k) (by intro a; rw [← k0_off1_eq k]; exact k0_off1_inb i k h1 a)]
    funext y
    refine congrArg (arg2.view.read (Elt F) X2) (funext fun a => Fin.ext ?_)
    fin_cases a
    · show 128 * k.val + 1 * (y 0).val = 128 * k.val + (y 0).val; omega
    · show 0 + 1 * (y 1).val = (y 1).val; omega
  have e3 : View.readAt (Elt F) arg3.view (Rect.unit (s := S1x2048) ![0, 0] S1x2048.size inb_S1x2048_S1x2048_0_0).toLoadRect X3
      = arg3.view.read (Elt F) X3 := View.readAt_full _ _ _
  rw [← e2, ← e3]

/-- After `n` trips the scratch reads the normalised rows below `128 n`. -/
theorem trips_read (𝒱 : Variants) (bd : Option 𝒱.V) (h1 : k0_cond1 i = 1#1) (X2 : BufTy.Contents (Elt F) arg2.view.ty) (X3 : BufTy.Contents (Elt F) arg3.view.ty)
    (G : BufTy.Contents (Elt F) arg9.view.ty) : ∀ n, n ≤ 8 → ∀ j : S1024x2048.Idx, (j 0).val < 128 * n →
      arg9.view.read (Elt F) (arg9.view.writes (Elt F) G
        (pb_k0_t1 𝒱 c bd i arg2 harg2 arg3 harg3 arg4 harg4 arg5 harg5 arg6 harg6 arg7 harg7 arg8 harg8 arg9 harg9 h1 X2 X3 n)) j
      = rows (arg2.view.read (Elt F) X2) (arg3.view.read (Elt F) X3) j
  | 0, _, j, hj => absurd hj (by omega)
  | n + 1, hn, j, hj => by
    have hk : n < k0_t1_loop.trips := by rw [trips_eq]; omega
    rw [show pb_k0_t1 𝒱 c bd i arg2 harg2 arg3 harg3 arg4 harg4 arg5 harg5 arg6 harg6 arg7 harg7 arg8 harg8 arg9 harg9 h1 X2 X3 (n + 1) = _ from
      pb_k0_t1_succ 𝒱 c bd i arg2 harg2 arg3 harg3 arg4 harg4 arg5 harg5 arg6 harg6 arg7 harg7 arg8 harg8 arg9 harg9 h1 X2 X3 ⟨n, hk⟩,
      trip_eq c i arg2 harg2 arg3 harg3 arg4 harg4 arg5 harg5 arg6 harg6 arg7 harg7 arg8 harg8 arg9 harg9 𝒱 bd h1 X2 X3 ⟨n, hk⟩ (by omega : n < 8)]
    by_cases hlt : (j 0).val < 128 * n
    · exact (View.read_writes_cons_rows_of_not_mem arg9.view G _ _ _ j (k0_off1_eq ⟨n, hk⟩) (W := 128) rfl (Or.inl hlt)).trans
        (trips_read 𝒱 bd h1 X2 X3 G n (by omega) j hlt)
    · have hd : (j 0).val / 128 = n := by omega
      have hm : 128 * n + (j 0).val % 128 = (j 0).val := by omega
      refine (View.read_writes_cons_rows_of_mem arg9.view G _ _ _ j (ix2 ⟨(j 0).val % 128, Nat.mod_lt _ (by decide)⟩ (j 1)) (k0_off1_eq ⟨n, hk⟩) hm.symm rfl).trans ?_
      unfold rows
      congr 2
      exact Fin.ext hd.symm

theorem trips_all (𝒱 : Variants) (bd : Option 𝒱.V) (h1 : k0_cond1 i = 1#1) (X2 : BufTy.Contents (Elt F) arg2.view.ty) (X3 : BufTy.Contents (Elt F) arg3.view.ty)
    (G : BufTy.Contents (Elt F) arg9.view.ty) :
      arg9.view.read (Elt F) (arg9.view.writes (Elt F) G
        (pb_k0_t1 𝒱 c bd i arg2 harg2 arg3 harg3 arg4 harg4 arg5 harg5 arg6 harg6 arg7 harg7 arg8 harg8 arg9 harg9 h1 X2 X3 k0_t1_loop.trips))
      = rows (arg2.view.read (Elt F) X2) (arg3.view.read (Elt F) X3) := by
  funext j
  rw [trips_eq]
  exact trips_read c i arg2 harg2 arg3 harg3 arg4 harg4 arg5 harg5 arg6 harg6 arg7 harg7 arg8 harg8 arg9 harg9 𝒱 bd h1 X2 X3 G 8 (le_refl _) j
    (by have h : (j 0).val < 1024 := (j 0).isLt; omega)

/-! ## The body's three cases -/

set_option maxHeartbeats 1000000 in
/-- The first point of a row block. -/
theorem case_first (h1 : k0_cond1 i = 1#1) (h2 : k0_cond2 i = 1#1) (h3 : ¬ k0_cond3 i = 1#1)
    (x0 : Vec F S1024x2048 .f32) (x1 : Vec F S1x2048 .f32) (x2 : Vec F S2048x1536 .bf16) (x3 : Vec F S2048x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3
        ∗ owns (c : Thread nD τ) arg6 fullShare (k0_pay3 (rows x0 x1) x2) ∗ owns (c : Thread nD τ) arg8 fullShare (k0_pay2 (rows x0 x1) x3)
        ∗ owns (c : Thread nD τ) arg9 fullShare (rows x0 x1)) -∗ K ⟨⟩))
      ⊢ wp frame (wpE (defs₀ (F := F)) Variants.none c none) Set.univ
          (cc0_proj i arg2 harg2 arg3 harg3 arg4 harg4 arg5 harg5 arg6 harg6 arg7 harg7 arg8 harg8 arg9 harg9) K := by
  simp only [cc0_proj_eq_skeleton]; unfold cc0_proj_skel
  rw [dif_pos h1, dif_pos h2, dif_neg h3]
  unfold owns
  iintro ⟨⟨%f0, %hf0, H0⟩, ⟨%f1, %hf1, H1⟩, ⟨%f2, %hf2, H2⟩, ⟨%f3, %hf3, H3⟩, ⟨%d4, %f4, -, H4⟩, ⟨%d6, %f6, -, H6⟩, ⟨%d9, %f9, -, H9⟩, Hk⟩
  subst hf0 hf1 hf2 hf3
  sl_exec
  sl_step
  have e9 : arg9.view.read (Elt F) (arg9.view.writes (Elt F) f9
      (pb_k0_t1 Variants.none c none i arg2 harg2 arg3 harg3 arg4 harg4 arg5 harg5 arg6 harg6 arg7 harg7 arg8 harg8 arg9 harg9 h1 f0 f1
        (Scf.trips k0_t1_loop.lb k0_t1_loop.ub k0_t1_loop.st))) = rows (arg2.view.read (Elt F) f0) (arg3.view.read (Elt F) f1) :=
    trips_all c i arg2 harg2 arg3 harg3 arg4 harg4 arg5 harg5 arg6 harg6 arg7 harg7 arg8 harg8 arg9 harg9 _ _ h1 f0 f1 f9
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_full _ _ _ _ _).trans (congrArg₂ k0_pay3 ((View.readAt_full _ _ _).trans e9) (View.readAt_full _ _ _))
  isplitl [H6]
  · iexists _; isplitr
    swap; · iexact H6
    ipureintro
    exact (View.read_writes_full _ _ _ _ _).trans (congrArg₂ k0_pay2 ((View.readAt_full _ _ _).trans e9) (View.readAt_full _ _ _))
  iexists _; isplitr
  swap; · iexact H9
  ipureintro
  exact e9

/-- A later point whose columns are stored as bfloat16. -/
theorem case_half (h1 : ¬ k0_cond1 i = 1#1) (h2 : k0_cond2 i = 1#1) (h3 : ¬ k0_cond3 i = 1#1)
    (x2 : Vec F S2048x1536 .bf16) (h : Vec F S1024x2048 .bf16) (K : PUnit → sProp 𝕄) :
    iprop(owns (c : Thread nD τ) arg4 fullShare x2 ∗ (∃ d, owns (c : Thread nD τ) arg6 fullShare d) ∗ owns (c : Thread nD τ) arg9 fullShare h
        ∗ (iprop(owns (c : Thread nD τ) arg4 fullShare x2 ∗ owns (c : Thread nD τ) arg6 fullShare (k0_pay3 h x2)
        ∗ owns (c : Thread nD τ) arg9 fullShare h) -∗ K ⟨⟩))
      ⊢ wp frame (wpE (defs₀ (F := F)) Variants.none c none) Set.univ
          (cc0_proj i arg2 harg2 arg3 harg3 arg4 harg4 arg5 harg5 arg6 harg6 arg7 harg7 arg8 harg8 arg9 harg9) K := by
  simp only [cc0_proj_eq_skeleton]; unfold cc0_proj_skel
  rw [dif_neg h1, dif_pos h2, dif_neg h3]
  unfold owns
  iintro ⟨⟨%f2, %hf2, H2⟩, ⟨%d4, %f4, -, H4⟩, ⟨%f9, %hf9, H9⟩, Hk⟩
  subst hf2 hf9
  sl_exec
  sl_step
  iapply Hk
  isplitl [H2]
  · iexists f2; isplitr; · ipureintro; rfl
    iexact H2
  isplitl [H4]
  · iexists _; isplitr
    swap; · iexact H4
    ipureintro
    exact (View.read_writes_full _ _ _ _ _).trans (congrArg₂ k0_pay3 (View.readAt_full _ _ _) (View.readAt_full _ _ _))
  iexists f9; isplitr; · ipureintro; rfl
  iexact H9

/-- A later point whose columns are stored as float32. -/
theorem case_full (h1 : ¬ k0_cond1 i = 1#1) (h2 : ¬ k0_cond2 i = 1#1) (h3 : k0_cond3 i = 1#1)
    (x2 : Vec F S2048x1536 .bf16) (h : Vec F S1024x2048 .bf16) (K : PUnit → sProp 𝕄) :
    iprop(owns (c : Thread nD τ) arg4 fullShare x2 ∗ (∃ d, owns (c : Thread nD τ) arg7 fullShare d) ∗ owns (c : Thread nD τ) arg9 fullShare h
        ∗ (iprop(owns (c : Thread nD τ) arg4 fullShare x2 ∗ owns (c : Thread nD τ) arg7 fullShare (k0_pay4 h x2)
        ∗ owns (c : Thread nD τ) arg9 fullShare h) -∗ K ⟨⟩))
      ⊢ wp frame (wpE (defs₀ (F := F)) Variants.none c none) Set.univ
          (cc0_proj i arg2 harg2 arg3 harg3 arg4 harg4 arg5 harg5 arg6 harg6 arg7 harg7 arg8 harg8 arg9 harg9) K := by
  simp only [cc0_proj_eq_skeleton]; unfold cc0_proj_skel
  rw [dif_neg h1, dif_neg h2, dif_pos h3]
  unfold owns
  iintro ⟨⟨%f2, %hf2, H2⟩, ⟨%d4, %f4, -, H4⟩, ⟨%f9, %hf9, H9⟩, Hk⟩
  subst hf2 hf9
  sl_exec
  sl_step
  iapply Hk
  isplitl [H2]
  · iexists f2; isplitr; · ipureintro; rfl
    iexact H2
  isplitl [H4]
  · iexists _; isplitr
    swap; · iexact H4
    ipureintro
    exact (View.read_writes_full _ _ _ _ _).trans (congrArg₂ k0_pay4 (View.readAt_full _ _ _) (View.readAt_full _ _ _))
  iexists f9; isplitr; · ipureintro; rfl
  iexact H9

end

end Cert.Kernel3Ideal.Proj

end
-- ==== Proof.ProjRun.lean ====
/-
  The projection's run: what each window's buffer holds after each grid point, what the scratch carries from point to
  point, and the frame.
-/
module

public import proofs.«01_k».proof.Proof.ProjBody
public import proofs.«01_k».proof.Proof.Gen.Kernel3Ideal.Frame

@[expose] public section

set_option maxRecDepth 16384

noncomputable section

namespace Cert.Kernel3Ideal.Proj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first point of the row block that position `n` is in. -/
def base (n : ℕ) : Fin cfg0.N := ⟨5 * (n / 5) % 80, Nat.lt_of_lt_of_eq (Nat.mod_lt _ (by decide)) N_0.symm⟩

/-- The point that stores the bfloat16 column block the output's window is on at `t`. -/
def half (n : ℕ) : Fin cfg0.N := ⟨(5 * (n / 5) + min (n % 5) 2) % 80, Nat.lt_of_lt_of_eq (Nat.mod_lt _ (by decide)) N_0.symm⟩

/-- The normalised rows of the block whose first point is `b`. -/
def normed (c : Dev nD) (b : Fin cfg0.N) : Vec F S1024x2048 .bf16 := rows (iblk m c 0 b) (iblk m c 1 b)

/-- What the scratch holds before position `n`: the row block's normalised rows, once its first point has run. -/
def scratch (c : Dev nD) (n : ℕ) : sProp 𝕄 :=
  if n % 5 = 0 then iprop(∃ d, owns (c : Thread nD τ) (Memref.whole cc0_scratch0) fullShare d)
  else owns (c : Thread nD τ) (Memref.whole cc0_scratch0) fullShare (normed m c (base n))

/-- The proof data: the inputs' buffers at their blocks, each output's at the block its last store left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay3 (normed m c (base t.val)) (X0_2 m c (half t.val))
    | ⟨5, _⟩ => k0_pay4 (normed m c (base t.val)) (X0_2 m c t)
    | ⟨6, _⟩ => k0_pay2 (normed m c (base t.val)) (iblk m c 3 (base t.val))
  Φ n := iprop(scratch m c n.val ∗ (∃ g, prngReg (c : Thread nD τ).1 g))
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay3 (normed m c (base t.val)) (X0_2 m c (half t.val)) := by dsimp only [dats]
theorem after_5 (c : Dev nD) (t : Fin cfg0.N) :
    (dats m 0 c).after 5 t = k0_pay4 (normed m c (base t.val)) (X0_2 m c t) := by dsimp only [dats]
theorem after_6 (c : Dev nD) (t : Fin cfg0.N) :
    (dats m 0 c).after 6 t = k0_pay2 (normed m c (base t.val)) (iblk m c 3 (base t.val)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The schedule, decided over the grid -/

theorem conds : ∀ t : Fin cfg0.N, (k0_cond1 (grid0.coords t) = 1#1 ↔ t.val % 5 = 0) ∧ (k0_cond2 (grid0.coords t) = 1#1 ↔ t.val % 5 < 3)
    ∧ (k0_cond3 (grid0.coords t) = 1#1 ↔ 3 ≤ t.val % 5) := (by decide +kernel : ∀ t : Fin grid0.N, _)

theorem flush4 : ∀ t : Fin cfg0.N, (cfg0.win 4).flush t = decide (t.val % 5 = 0 ∨ t.val % 5 = 1 ∨ t.val % 5 = 4) :=
  (by decide +kernel : ∀ t : Fin grid0.N, win0_4.flush t = _)
theorem flush5 : ∀ t : Fin cfg0.N, (cfg0.win 5).flush t = decide (3 ≤ t.val % 5) :=
  (by decide +kernel : ∀ t : Fin grid0.N, win0_5.flush t = _)
theorem flush6 (t : Fin cfg0.N) : (cfg0.win 6).flush t = decide (t.val % 5 = 4) := by
  rw [Bool.eq_iff_iff, flush0_6 t, decide_eq_true_iff]

theorem idle4 (t : Fin cfg0.N) : cfg0.idle 4 (cfg0.grid.coords t) = decide (3 ≤ t.val % 5) := by
  have h := (conds t).2.1
  show (!(k0_cond2 (grid0.coords t) == 1#1)) = _
  by_cases h3 : 3 ≤ t.val % 5
  · rw [decide_eq_true h3, beq_eq_false_iff_ne.mpr (fun e => absurd (h.mp e) (by omega))]; rfl
  · rw [decide_eq_false h3, h.mpr (by omega)]; rfl
theorem idle5 (t : Fin cfg0.N) : cfg0.idle 5 (cfg0.grid.coords t) = decide (t.val % 5 < 3) := by
  have h := (conds t).2.2
  show (!(k0_cond3 (grid0.coords t) == 1#1)) = _
  by_cases h3 : t.val % 5 < 3
  · rw [decide_eq_true h3, beq_eq_false_iff_ne.mpr (fun e => absurd (h.mp e) (by omega))]; rfl
  · rw [decide_eq_false h3, h.mpr (by omega)]; rfl
theorem idle6 (t : Fin cfg0.N) : cfg0.idle 6 (cfg0.grid.coords t) = decide (t.val % 5 ≠ 0) := by
  have h := (conds t).1
  show (!(k0_cond1 (grid0.coords t) == 1#1)) = _
  by_cases h3 : t.val % 5 ≠ 0
  · rw [decide_eq_true h3, beq_eq_false_iff_ne.mpr (fun e => absurd (h.mp e) h3)]; rfl
  · rw [decide_eq_false h3, h.mpr (by omega)]; rfl

theorem lt80 (t : Fin cfg0.N) : t.val < 80 := Nat.lt_of_lt_of_eq t.isLt N_0

theorem base_first (t : Fin cfg0.N) (h : t.val % 5 = 0) : base t.val = t := Fin.ext (by have := lt80 t; show 5 * (t.val / 5) % 80 = t.val; omega)
theorem base_succ (n : ℕ) (h : n % 5 ≠ 4) : base (n + 1) = base n := Fin.ext (by show 5 * ((n + 1) / 5) % 80 = 5 * (n / 5) % 80; omega)
theorem half_low (t : Fin cfg0.N) (h : t.val % 5 < 3) : half t.val = t :=
  Fin.ext (by have := lt80 t; show (5 * (t.val / 5) + min (t.val % 5) 2) % 80 = t.val; omega)
theorem half_succ (n : ℕ) (h : n % 5 = 2 ∨ n % 5 = 3) : half (n + 1) = half n :=
  Fin.ext (by show (5 * ((n + 1) / 5) + min ((n + 1) % 5) 2) % 80 = (5 * (n / 5) + min (n % 5) 2) % 80; omega)

/-- At a row block's last point the bfloat16 output's buffer still holds what its third point stored, -/
theorem before_4 (c : Dev nD) (t : Fin cfg0.N) (h : t.val % 5 = 4) (d) : (dats m 0 c).before 4 t d = (dats m 0 c).after 4 t := by
  have hc : ∀ (t : Fin cfg0.N) (_ : t.val ≠ 0), cfg0.idle 4 (cfg0.grid.coords t) = true → cfg0.fresh 4 t.val = false →
      (dats m 0 c).after 4 t = (dats m 0 c).after 4 ⟨t.val - 1, by omega⟩ := fun t h0 hi _ => by
    rw [idle4, decide_eq_true_iff] at hi
    have e : t.val - 1 + 1 = t.val := by omega
    have eb : base t.val = base (t.val - 1) := by conv_lhs => rw [← e, base_succ _ (by omega)]
    have eh : half t.val = half (t.val - 1) := by conv_lhs => rw [← e, half_succ _ (by omega)]
    rw [after_4, after_4, eb, eh]
  rw [(dats m 0 c).before_out_traj 4 rfl (fun _ _ => rfl) hc t.val t rfl d]
  have hf : cfg0.fresh 4 t.val = false := (by decide +kernel : ∀ t : Fin grid0.N, t.val % 5 = 4 → cfg0.fresh 4 t.val = false) t h
  rw [hf, if_neg Bool.false_ne_true]
  exact (hc t (by omega) (by rw [idle4, decide_eq_true_iff]; omega) hf).symm

/-- and the gates' buffer what the first stored. -/
theorem before_6 (c : Dev nD) (t : Fin cfg0.N) (h : t.val % 5 = 4) (d) : (dats m 0 c).before 6 t d = (dats m 0 c).after 6 t := by
  have hc : ∀ (t : Fin cfg0.N) (_ : t.val ≠ 0), cfg0.idle 6 (cfg0.grid.coords t) = true → cfg0.fresh 6 t.val = false →
      (dats m 0 c).after 6 t = (dats m 0 c).after 6 ⟨t.val - 1, by omega⟩ := fun t h0 hi _ => by
    rw [idle6, decide_eq_true_iff] at hi
    have e : t.val - 1 + 1 = t.val := by omega
    have eb : base t.val = base (t.val - 1) := by conv_lhs => rw [← e, base_succ _ (by omega)]
    rw [after_6, after_6, eb]
  rw [(dats m 0 c).before_out_traj 6 rfl (fun _ _ => rfl) hc t.val t rfl d]
  have hf : cfg0.fresh 6 t.val = false := (by decide +kernel : ∀ t : Fin grid0.N, t.val % 5 = 4 → cfg0.fresh 6 t.val = false) t h
  rw [hf, if_neg Bool.false_ne_true]
  exact (hc t (by omega) (by rw [idle6, decide_eq_true_iff]; omega) hf).symm

/-! ## The body obligation -/

theorem defs₀_row (t : Fin cfg0.N) :
    defs₀ (F := F) .tc cfg0.body (cfg0.bodyArgs t (cfg0.slots t)) = bodyAt0 t := by
  unfold defs₀; rw [Defs.onTc_tc]

/-- What the body leaves of window `w`'s buffer at point `t`: where the window is idle and its block stays, whatever it
    found; elsewhere what the proof data say. -/
def leaves (c : Dev nD) (w : Fin cfg0.W) (t : Fin cfg0.N) : sProp 𝕄 :=
  match cfg0.idle w (cfg0.grid.coords t) with
  | true =>
    match (cfg0.win w).flush t with
    | false => iprop(∃ d, owns c ((cfg0.win w).stage (cfg0.slots t w)) fullShare ((dats (F := F) m 0 c).before w t d))
    | true => owns c ((cfg0.win w).stage (cfg0.slots t w)) fullShare ((dats m 0 c).after w t)
  | false => owns c ((cfg0.win w).stage (cfg0.slots t w)) fullShare ((dats m 0 c).after w t)

theorem leaves_after (c : Dev nD) (w : Fin cfg0.W) (t : Fin cfg0.N)
    (h : cfg0.idle w (cfg0.grid.coords t) = false ∨ (cfg0.win w).flush t = true) :
    leaves m c w t = owns c ((cfg0.win w).stage (cfg0.slots t w)) fullShare ((dats (F := F) m 0 c).after w t) := by
  unfold leaves
  cases hi : cfg0.idle w (cfg0.grid.coords t)
  · rfl
  · rcases h with h | h
    · rw [hi] at h; exact absurd h Bool.noConfusion
    · rw [h]
theorem leaves_found (c : Dev nD) (w : Fin cfg0.W) (t : Fin cfg0.N) (hi : cfg0.idle w (cfg0.grid.coords t) = true) (hf : (cfg0.win w).flush t = false) :
    leaves m c w t = iprop(∃ d, owns c ((cfg0.win w).stage (cfg0.slots t w)) fullShare ((dats (F := F) m 0 c).before w t d)) := by
  unfold leaves; rw [hi, hf]

/-- What the body is handed at a point, -/
def bodyPre (c : Dev nD) (t : Fin cfg0.N) : sProp 𝕄 :=
  iprop((scratch m c t.val ∗ (∃ g, prngReg (c : Thread nD τ).1 g)) ∗ (dats (F := F) m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((scratch m c (t.val + 1) ∗ (∃ g, prngReg (c : Thread nD τ).1 g)) ∗ (dats (F := F) m 0 c).owesAt () t.castSucc
    ∗ leaves m c 0 t ∗ leaves m c 1 t ∗ leaves m c 2 t ∗ leaves m c 3 t ∗ leaves m c 4 t ∗ leaves m c 5 t ∗ leaves m c 6 t)

/-- The inputs' buffers stay at their blocks. -/
theorem leaves_in (c : Dev nD) (t : Fin cfg0.N) :
    leaves m c 0 t = owns (c : Thread nD τ) (st0_0 t) fullShare (iblk (F := F) m c 0 t)
    ∧ leaves m c 1 t = owns (c : Thread nD τ) (st0_1 t) fullShare (iblk m c 1 t)
    ∧ leaves m c 2 t = owns (c : Thread nD τ) (st0_2 t) fullShare (X0_2 m c t)
    ∧ leaves m c 3 t = owns (c : Thread nD τ) (st0_3 t) fullShare (iblk m c 3 t) :=
  ⟨(leaves_after m c 0 t (Or.inl rfl)).trans (by rw [after_0]), (leaves_after m c 1 t (Or.inl rfl)).trans (by rw [after_1]),
    (leaves_after m c 2 t (Or.inl rfl)).trans (by rw [after_2]), (leaves_after m c 3 t (Or.inl rfl)).trans (by rw [after_3])⟩

theorem scratch_first (c : Dev nD) (n : ℕ) (h : n % 5 = 0) :
    scratch m c n = iprop(∃ d, owns (c : Thread nD τ) (Memref.whole cc0_scratch0) fullShare (d : Vec F S1024x2048 .bf16)) := if_pos h
theorem scratch_later (c : Dev nD) (n : ℕ) (h : n % 5 ≠ 0) :
    scratch (F := F) m c n = owns (c : Thread nD τ) (Memref.whole cc0_scratch0) fullShare (normed m c (base n)) := if_neg h

theorem body_first (c : Dev nD) (t : Fin cfg0.N) (h : t.val % 5 = 0) :
    bodyPre m c t ⊢ wp frame (wpE (defs₀ (F := F)) Variants.none c none) Set.univ (bodyAt0 t) fun _ => bodyPost m c t := by
  obtain ⟨i1, i2, i3⟩ := conds t
  obtain ⟨l0, l1, l2, l3⟩ := leaves_in m c t
  unfold bodyPre bodyPost
  rw [scratch_first m c _ h, scratch_later m c (t.val + 1) (by omega), base_succ _ (by omega), base_first t h, l0, l1, l2, l3,
    leaves_after m c 4 t (Or.inl (by rw [idle4]; exact decide_eq_false (by omega))), after_4,
    leaves_found m c 5 t (by rw [idle5]; exact decide_eq_true (by omega)) (by rw [flush5]; exact decide_eq_false (by omega)),
    leaves_after m c 6 t (Or.inl (by rw [idle6]; exact decide_eq_false (by omega))), after_6, base_first t h, half_low t (by omega)]
  simp only [before_0, before_1, before_2, before_3]
  iintro ⟨⟨HS, Hg⟩, Ho, ⟨%d0, H0⟩, ⟨%d1, H1⟩, ⟨%d2, H2⟩, ⟨%d3, H3⟩, ⟨%d4, H4⟩, H5, ⟨%d6, H6⟩⟩
  iapply (case_first c (grid0.coords t) _ _ _ _ _ _ _ _ _ _ _ _ _ _ _ _ (i1.mpr h) (i2.mpr (by omega)) (fun e => absurd (i3.mp e) (by omega))
    (iblk m c 0 t) (iblk m c 1 t) (X0_2 m c t) (iblk m c 3 t))
  isplitl [H0]; · iexact H0
  isplitl [H1]; · iexact H1
  isplitl [H2]; · iexact H2
  isplitl [H3]; · iexact H3
  isplitl [H4]; · iexists _; iexact H4
  isplitl [H6]; · iexists _; iexact H6
  isplitl [HS]; · iexact HS
  iintro ⟨H0, H1, H2, H3, H4, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_half (c : Dev nD) (t : Fin cfg0.N) (h : t.val % 5 = 1 ∨ t.val % 5 = 2) :
    bodyPre m c t ⊢ wp frame (wpE (defs₀ (F := F)) Variants.none c none) Set.univ (bodyAt0 t) fun _ => bodyPost m c t := by
  obtain ⟨i1, i2, i3⟩ := conds t
  obtain ⟨l0, l1, l2, l3⟩ := leaves_in m c t
  unfold bodyPre bodyPost
  rw [scratch_later m c _ (by omega), scratch_later m c (t.val + 1) (by omega), base_succ _ (by omega), l0, l1, l2, l3,
    leaves_after m c 4 t (Or.inl (by rw [idle4]; exact decide_eq_false (by omega))), after_4,
    leaves_found m c 5 t (by rw [idle5]; exact decide_eq_true (by omega)) (by rw [flush5]; exact decide_eq_false (by omega)),
    leaves_found m c 6 t (by rw [idle6]; exact decide_eq_true (by omega)) (by rw [flush6]; exact decide_eq_false (by omega)), half_low t (by omega)]
  simp only [before_0, before_1, before_2, before_3]
  iintro ⟨⟨HS, Hg⟩, Ho, ⟨%d0, H0⟩, ⟨%d1, H1⟩, ⟨%d2, H2⟩, ⟨%d3, H3⟩, ⟨%d4, H4⟩, H5, H6⟩
  iapply (case_half c (grid0.coords t) _ _ _ _ _ _ _ _ _ _ _ _ _ _ _ _ (fun e => absurd (i1.mp e) (by omega)) (i2.mpr (by omega)) (fun e => absurd (i3.mp e) (by omega))
    (X0_2 m c t) (normed m c (base t.val)))
  isplitl [H2]; · iexact H2
  isplitl [H4]; · iexists _; iexact H4
  isplitl [HS]; · iexact HS
  iintro ⟨H2, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_full (c : Dev nD) (t : Fin cfg0.N) (h : t.val % 5 = 3) :
    bodyPre m c t ⊢ wp frame (wpE (defs₀ (F := F)) Variants.none c none) Set.univ (bodyAt0 t) fun _ => bodyPost m c t := by
  obtain ⟨i1, i2, i3⟩ := conds t
  obtain ⟨l0, l1, l2, l3⟩ := leaves_in m c t
  unfold bodyPre bodyPost
  rw [scratch_later m c _ (by omega), scratch_later m c (t.val + 1) (by omega), base_succ _ (by omega), l0, l1, l2, l3,
    leaves_found m c 4 t (by rw [idle4]; exact decide_eq_true (by omega)) (by rw [flush4]; exact decide_eq_false (by omega)),
    leaves_after m c 5 t (Or.inl (by rw [idle5]; exact decide_eq_false (by omega))), after_5,
    leaves_found m c 6 t (by rw [idle6]; exact decide_eq_true (by omega)) (by rw [flush6]; exact decide_eq_false (by omega))]
  simp only [before_0, before_1, before_2, before_3]
  iintro ⟨⟨HS, Hg⟩, Ho, ⟨%d0, H0⟩, ⟨%d1, H1⟩, ⟨%d2, H2⟩, ⟨%d3, H3⟩, H4, ⟨%d5, H5⟩, H6⟩
  iapply (case_full c (grid0.coords t) _ _ _ _ _ _ _ _ _ _ _ _ _ _ _ _ (fun e => absurd (i1.mp e) (by omega)) (fun e => absurd (i2.mp e) (by omega)) (i3.mpr (by omega))
    (X0_2 m c t) (normed m c (base t.val)))
  isplitl [H2]; · iexact H2
  isplitl [H5]; · iexists _; iexact H5
  isplitl [HS]; · iexact HS
  iintro ⟨H2, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_last (c : Dev nD) (t : Fin cfg0.N) (h : t.val % 5 = 4) :
    bodyPre m c t ⊢ wp frame (wpE (defs₀ (F := F)) Variants.none c none) Set.univ (bodyAt0 t) fun _ => bodyPost m c t := by
  obtain ⟨i1, i2, i3⟩ := conds t
  obtain ⟨l0, l1, l2, l3⟩ := leaves_in m c t
  unfold bodyPre bodyPost
  rw [scratch_later m c _ (by omega), scratch_first m c (t.val + 1) (by omega), l0, l1, l2, l3,
    leaves_after m c 4 t (Or.inr (by rw [flush4]; exact decide_eq_true (by omega))),
    leaves_after m c 5 t (Or.inl (by rw [idle5]; exact decide_eq_false (by omega))), after_5,
    leaves_after m c 6 t (Or.inr (by rw [flush6]; exact decide_eq_true (by omega)))]
  simp only [before_0, before_1, before_2, before_3, before_4 m c t h, before_6 m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (case_full c (grid0.coords t) _ _ _ _ _ _ _ _ _ _ _ _ _ _ _ _ (fun e => absurd (i1.mp e) (by omega)) (fun e => absurd (i2.mp e) (by omega)) (i3.mpr (by omega))
    (X0_2 m c t) (normed m c (base t.val)))
  isplitl [H2]; · iexact H2
  isplitl [H5]; · iexists _; iexact H5
  isplitl [HS]; · iexact HS
  iintro ⟨H2, H5, HS⟩
  isplitl [HS Hg]
  · isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) fun _ => bodyPost m c t := by
  by_cases h0 : t.val % 5 = 0
  · exact body_first m c t h0
  by_cases h1 : t.val % 5 = 1 ∨ t.val % 5 = 2
  · exact body_half m c t h1
  by_cases h3 : t.val % 5 = 3
  · exact body_full m c t h3
  · exact body_last m c t (by omega)

theorem body_obligation (c : Dev nD) : BodyObligation (dats (F := F) m 0 c) (defs₀ (F := F)) Variants.none () Set.univ := fun t => by
  refine triple_restated (sound_body m c t) (congrArg _ (defs₀_row t).symm) ?_ fun _ => ?_
  · rw [bigSep_W0]; exact .rfl
  · rw [bigSep_W0]; exact .rfl

/-! ## The run and the frame -/

/-- Owning the whole scratch at some contents, as the region hands it and takes it back. -/
theorem scratch_iff (c : Dev nD) :
    (iprop(∃ d, owns (c : Thread nD τ) (Memref.whole cc0_scratch0) fullShare (d : Vec F S1024x2048 .bf16)) : sProp 𝕄)
      = iprop(∃ f : Buf (Elt F) ((c : Thread nD τ).loc cc0_scratch0), ((c : Thread nD τ).loc cc0_scratch0) ↦{fullShare} f) := by
  have h₁ : (iprop(∃ d, owns (c : Thread nD τ) (Memref.whole cc0_scratch0) fullShare (d : Vec F S1024x2048 .bf16)) : sProp 𝕄)
      ⊢ iprop(∃ f : Buf (Elt F) ((c : Thread nD τ).loc cc0_scratch0), ((c : Thread nD τ).loc cc0_scratch0) ↦{fullShare} f) := by
    unfold owns
    rw [show (Memref.whole cc0_scratch0).view.set = Finset.univ from View.set_whole cc0_scratch0]
    iintro ⟨%d, %f, -, H⟩
    iexists f; iexact H
  have h₂ : (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0) fullShare (d : Vec F S1024x2048 .bf16)) := by
    unfold owns
    rw [show (Memref.whole cc0_scratch0).view.set = Finset.univ from View.set_whole cc0_scratch0]
    iintro ⟨%f, H⟩
    iexists _; iexists f
    isplitr; · ipureintro; rfl
    iexact H
  exact Entails.antisymm h₁ h₂

theorem Φ_ends (c : Dev nD) (n : Fin (cfg0.N + 1)) (h : n.val % 5 = 0) : (dats (F := F) m 0 c).Φ n = Pipeline.ΦA spec0 c := by
  unfold Pipeline.ΦA
  rw [scopedRest0_eq, ← scratch_iff, ← scratch_first m c n.val h]; rfl

set_option backward.isDefEq.respectTransparency.types false in
/-- The launch, and every semaphore counter at zero at its end. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [Φ_ends m c 0 rfl]) (hout := fun c => by rw [Φ_ends m c (Fin.last cfg0.N) (by show cfg0.N % 5 = 0; rw [show cfg0.N = 80 from N_0])])
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame at any float values: the arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Proj

end
-- ==== Proof.Proj.lean ====
/-
  The projection's value: what the kernel leaves in its three result arrays is the reference's composed terms of the
  same three arguments, at `Ideal`.

  Every result is a range of columns of one product, the normalised rows by the weight: columns 0 … 4607 as bfloat16,
  4608 … 7679 as float32, and the last 128, the gates. A row block is 1024 rows and a column block 1536 columns.
-/
module

public import proofs.«01_k».proof.Proof.ProjRun
public import proofs.«01_k».proof.Proof.Gen.Kernel3
public import proofs.«01_k».proof.Proof.Gen.Reference3Ideal
public import proofs.«01_k».proof.Proof.Gen.Reference3Ideal.Run
public import proofs.«01_k».proof.Defs
public import Idealize.ShloMosaic.Lib.Claim
public import Idealize.ShloMosaic.Lib.Pipeline.Regions
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

/-! ## The reference's terms -/

namespace Cert.Reference3Ideal.Term

open Cert.Reference3Ideal Cert.Reference3Ideal.Gen

/-- The rows over their root mean squares, scaled by the gains. -/
def hidden (x : FVec Ideal S8x2048x2048 .f32) (g : FVec Ideal S1x2048 .f32) : FVec Ideal S16384x2048 .f32 :=
  shapeCast _ (mulf (mulf x (broadcastInDim S8x2048x2048 ![0, 1, 2] bcast_S8x2048x1_S8x2048x2048_0_1_2
    (Host.rsqrt (addf (Host.divf (broadcastInDim S8x2048x1 ![0, 1] bcast_S8x2048_S8x2048x1_0_1
      (Host.reduceAdd (mulf x x) (constant S_ .f32 0x00000000#32) reducesTo_S8x2048x2048_S8x2048_d2 h_S_))
      (broadcastInDim S8x2048x1 ![] bcast_S_S8x2048x1 (constant S_ .f32 0x45000000#32)))
      (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 (shapeCast _ g shapeCasts_S1x2048_S2048)))) shapeCasts_S8x2048x2048_S16384x2048

/-- Their product with the weight. -/
def product (x : FVec Ideal S8x2048x2048 .f32) (g : FVec Ideal S1x2048 .f32) (w : FVec Ideal S2048x7808 .f32) : FVec Ideal S16384x7808 .f32 :=
  Host.dotGeneral dot_S16384x2048_S2048x7808_S16384x7808_1_0_0_1_n_n none (hidden x g) w

/-- The three results. -/
def out16 (x : FVec Ideal S8x2048x2048 .f32) (g : FVec Ideal S1x2048 .f32) (w : FVec Ideal S2048x7808 .f32) : FVec Ideal S16384x4608 .bf16 :=
  truncf .bf16 (extractStridedSlice S16384x4608 ![0, 0] (product x g w) slices_S16384x7808_S16384x4608_0_0) bitsLt_bf16_f32
def out32 (x : FVec Ideal S8x2048x2048 .f32) (g : FVec Ideal S1x2048 .f32) (w : FVec Ideal S2048x7808 .f32) : FVec Ideal S16384x3072 .f32 :=
  extractStridedSlice S16384x3072 ![0, 4608] (product x g w) slices_S16384x7808_S16384x3072_0_4608
def outg (x : FVec Ideal S8x2048x2048 .f32) (g : FVec Ideal S1x2048 .f32) (w : FVec Ideal S2048x7808 .f32) : FVec Ideal S16384x128 .f32 :=
  extractStridedSlice S16384x128 ![0, 7680] (product x g w) slices_S16384x7808_S16384x128_0_7680

theorem hidden_at (x : FVec Ideal S8x2048x2048 .f32) (g : FVec Ideal S1x2048 .f32) (R : Fin 16384) (l : Fin 2048) :
    hidden x g (ix2 R l) = x (ix3 ⟨R.val / 2048, by omega⟩ ⟨R.val % 2048, by omega⟩ l) * Ideal.rsqrt
      (Ideal.div (∑ k : Fin 2048, x (ix3 ⟨R.val / 2048, by omega⟩ ⟨R.val % 2048, by omega⟩ k) * x (ix3 ⟨R.val / 2048, by omega⟩ ⟨R.val % 2048, by omega⟩ k))
        (Ideal.ofBits .f32 0x45000000#32) + Ideal.ofBits .f32 0x358637BD#32) * g (ix2 0 l) := by
  pointwise [hidden]
theorem product_at (x : FVec Ideal S8x2048x2048 .f32) (g : FVec Ideal S1x2048 .f32) (w : FVec Ideal S2048x7808 .f32) (R : Fin 16384) (l : Fin 7808) :
    product x g w (ix2 R l) = ∑ k : Fin 2048, hidden x g (ix2 R k) * w (ix2 k l) := by
  pointwise [product]
theorem out16_at (x : FVec Ideal S8x2048x2048 .f32) (g : FVec Ideal S1x2048 .f32) (w : FVec Ideal S2048x7808 .f32) (R : Fin 16384) (l : Fin 4608) :
    out16 x g w (ix2 R l) = ∑ k : Fin 2048, hidden x g (ix2 R k) * w (ix2 k ⟨l.val, by omega⟩) := by
  pointwise [out16, product_at]
theorem out32_at (x : FVec Ideal S8x2048x2048 .f32) (g : FVec Ideal S1x2048 .f32) (w : FVec Ideal S2048x7808 .f32) (R : Fin 16384) (l : Fin 3072) :
    out32 x g w (ix2 R l) = ∑ k : Fin 2048, hidden x g (ix2 R k) * w (ix2 k ⟨4608 + l.val, by omega⟩) := by
  pointwise [out32, product_at]
theorem outg_at (x : FVec Ideal S8x2048x2048 .f32) (g : FVec Ideal S1x2048 .f32) (w : FVec Ideal S2048x7808 .f32) (R : Fin 16384) (l : Fin 128) :
    outg x g w (ix2 R l) = ∑ k : Fin 2048, hidden x g (ix2 R k) * w (ix2 k ⟨7680 + l.val, by omega⟩) := by
  pointwise [outg, product_at]

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = out16 (m ((c.tc : Thread nD τ).loc main_arg0)) (m ((c.tc : Thread nD τ).loc main_arg1)) (m ((c.tc : Thread nD τ).loc main_arg2))
      ∧ r.2.mem ((c.tc : Thread nD τ).loc main_v18) = out32 (m ((c.tc : Thread nD τ).loc main_arg0)) (m ((c.tc : Thread nD τ).loc main_arg1)) (m ((c.tc : Thread nD τ).loc main_arg2))
      ∧ r.2.mem ((c.tc : Thread nD τ).loc main_v19) = outg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold out16 out32 outg product hidden
  exact Cert.Reference3Ideal.Value.run m ρ

end Cert.Reference3Ideal.Term

/-! ## The kernel's result arrays -/

namespace Cert.Kernel3Ideal.Proj

open Cert.Kernel3Ideal Cert.Kernel3Ideal.Gen
open Cert.Reference3Ideal.Term (hidden hidden_at out16 out32 outg out16_at out32_at outg_at)

variable (m : (ℓ : Loc nD τ sig) → Buf (Elt Ideal) ℓ)

/-- The block every window is at, at each of the 80 points. -/
theorem idx : ∀ t : Fin cfg0.N, win0_0.index t = ![t.val / 5, 0] ∧ win0_1.index t = ![0, 0] ∧ win0_2.index t = ![0, t.val % 5]
    ∧ win0_3.index t = ![0, 60] ∧ win0_4.index t = ![t.val / 5, min (t.val % 5) 2] ∧ win0_5.index t = ![t.val / 5, t.val % 5 - 3]
    ∧ win0_6.index t = ![t.val / 5, 0] :=
  (by decide +kernel : ∀ t : Fin grid0.N, _)

/-- The array row that row `r` of point `t`'s block is. -/
def row (t : Fin cfg0.N) (r : Fin 1024) : Fin 16384 := ⟨t.val / 5 * 1024 + r.val, by have := lt80 t; omega⟩

/-- The host's operations on the arguments. -/
def xRows (x : FVec Ideal S8x2048x2048 .f32) : FVec Ideal S16384x2048 .f32 :=
  shapeCast S16384x2048 x shapeCasts_S8x2048x2048_S16384x2048
def wHalf (w : FVec Ideal S2048x7808 .f32) : FVec Ideal S2048x7808 .bf16 := truncf .bf16 w bitsLt_bf16_f32

theorem xRows_at (x : FVec Ideal S8x2048x2048 .f32) (R : Fin 16384) (l : Fin 2048) :
    xRows x (ix2 R l) = x (ix3 ⟨R.val / 2048, by omega⟩ ⟨R.val % 2048, by omega⟩ l) := by pointwise [xRows]
theorem wHalf_at (w : FVec Ideal S2048x7808 .f32) (k : Fin 2048) (l : Fin 7808) : wHalf w (ix2 k l) = w (ix2 k l) := by pointwise [wHalf]

theorem V_x (c : Dev nD) : V m c main_v0 = xRows (m ((c : Thread nD τ).loc main_arg0)) := by
  unfold V; after_results; try rfl
theorem V_w (c : Dev nD) : V m c main_v1 = wHalf (m ((c : Thread nD τ).loc main_arg2)) := by
  unfold V; after_results; try rfl

/-- Each operand's block at an index. -/
theorem x_at (c : Dev nD) (t : Fin cfg0.N) (r : Fin 1024) (l : Fin 2048) :
    iblk m c 0 t (ix2 r l) = m ((c : Thread nD τ).loc main_arg0) (ix3 ⟨(row t r).val / 2048, by omega⟩ ⟨(row t r).val % 2048, by omega⟩ l) := by
  have e : iblk m c 0 t (ix2 r l) = V m c main_v0 (ix2 (row t r) l) := by blk_ext [iblk, idx t, row]
  exact e.trans ((congrFun (V_x m c) _).trans (xRows_at _ _ _))
theorem g_at (c : Dev nD) (t : Fin cfg0.N) (l : Fin 2048) :
    iblk m c 1 t (ix2 0 l) = m ((c : Thread nD τ).loc main_arg1) (ix2 0 l) := by
  have e : iblk m c 1 t (ix2 0 l) = V m c main_arg1 (ix2 0 l) := by blk_ext [iblk, idx t]
  exact e.trans (congrFun (V_main_arg1 m c) _)
theorem wg_at (c : Dev nD) (t : Fin cfg0.N) (k : Fin 2048) (l : Fin 128) :
    iblk m c 3 t (ix2 k l) = m ((c : Thread nD τ).loc main_arg2) (ix2 k ⟨7680 + l.val, by omega⟩) := by
  have e : iblk m c 3 t (ix2 k l) = V m c main_v1 (ix2 k ⟨7680 + l.val, by omega⟩) := by blk_ext [iblk, idx t]
  exact e.trans ((congrFun (V_w m c) _).trans (wHalf_at _ _ _))
theorem w_at (c : Dev nD) (t : Fin cfg0.N) (k : Fin 2048) (l : Fin 1536) :
    X0_2 m c t (ix2 k l) = m ((c : Thread nD τ).loc main_arg2) (ix2 k ⟨t.val % 5 * 1536 + l.val, by omega⟩) := by
  have e : X0_2 m c t (ix2 k l) = V m c main_v1 (ix2 k ⟨t.val % 5 * 1536 + l.val, by omega⟩) := by
    unfold X0_2 Pipeline.Window.fill
    rw [dif_pos (moved0_2 t _)]
    blk_ext [iblk, idx t]
  exact e.trans ((congrFun (V_w m c) _).trans (wHalf_at _ _ _))

/-- One trip's stored chunk, from the chunk's rows: each over its root mean square, scaled by the gains. -/
theorem pay1_at (v : FVec Ideal S128x2048 .f32) (g : FVec Ideal S1x2048 .f32) (x : FVec Ideal S8x2048x2048 .f32) (r : Fin 128) (R : Fin 16384)
    (hv : ∀ k : Fin 2048, v (ix2 r k) = x (ix3 ⟨R.val / 2048, by omega⟩ ⟨R.val % 2048, by omega⟩ k)) (l : Fin 2048) :
    k0_pay1 (F := Ideal) v g (ix2 r l) = hidden x g (ix2 R l) := by
  pointwise [k0_pay1, hv, hidden_at]

/-- The scratch's normalised rows are the reference's. -/
theorem normed_at (c : Dev nD) (b : Fin cfg0.N) (r : Fin 1024) (l : Fin 2048) :
    normed m c b (ix2 r l) = hidden (m ((c : Thread nD τ).loc main_arg0)) (m ((c : Thread nD τ).loc main_arg1)) (ix2 (row b r) l) := by
  have hg : (iblk m c 1 b : Vec Ideal S1x2048 .f32) = m ((c : Thread nD τ).loc main_arg1) := by
    funext y
    idx_vars y
    obtain rfl : y0 = 0 := Subsingleton.elim _ _
    exact g_at m c b _
  unfold normed rows
  rw [hg]
  refine pay1_at _ _ _ _ (row b r) (fun k => ?_) l
  refine Eq.trans ?_ (x_at m c b r k)
  unfold chunk
  refine congrArg (iblk m c 0 b) ?_
  exact congrArg (fun i => ix2 i k) (Fin.ext (by show 128 * (r.val / 128) + r.val % 128 = r.val; omega))

theorem pay3_at (h : FVec Ideal S1024x2048 .bf16) (w : FVec Ideal S2048x1536 .bf16) (r : Fin 1024) (l : Fin 1536) :
    k0_pay3 (F := Ideal) h w (ix2 r l) = ∑ k : Fin 2048, h (ix2 r k) * w (ix2 k l) := by
  pointwise [k0_pay3]
theorem pay4_at (h : FVec Ideal S1024x2048 .bf16) (w : FVec Ideal S2048x1536 .bf16) (r : Fin 1024) (l : Fin 1536) :
    k0_pay4 (F := Ideal) h w (ix2 r l) = ∑ k : Fin 2048, h (ix2 r k) * w (ix2 k l) := by
  pointwise [k0_pay4]
theorem pay2_at (h : FVec Ideal S1024x2048 .bf16) (w : FVec Ideal S2048x128 .bf16) (r : Fin 1024) (l : Fin 128) :
    k0_pay2 (F := Ideal) h w (ix2 r l) = ∑ k : Fin 2048, h (ix2 r k) * w (ix2 k l) := by
  pointwise [k0_pay2]

theorem row_base (t : Fin cfg0.N) (r : Fin 1024) : row (base t.val) r = row t r :=
  Fin.ext (by have := lt80 t; show 5 * (t.val / 5) % 80 / 5 * 1024 + r.val = t.val / 5 * 1024 + r.val; omega)

/-- Where an index of each result's block sits in its array. -/
theorem emb4 (t : Fin cfg0.N) (r : Fin 1024) (l : Fin 1536) :
    ((cfg0.win 4).blk t).view.emb (ix2 r l) = (ix2 (row t r) ⟨min (t.val % 5) 2 * 1536 + l.val, by omega⟩ : S16384x4608.Idx) := by
  blk_ext [idx t, row]
theorem emb5 (t : Fin cfg0.N) (r : Fin 1024) (l : Fin 1536) :
    ((cfg0.win 5).blk t).view.emb (ix2 r l) = (ix2 (row t r) ⟨(t.val % 5 - 3) * 1536 + l.val, by omega⟩ : S16384x3072.Idx) := by
  blk_ext [idx t, row]
theorem emb6 (t : Fin cfg0.N) (r : Fin 1024) (l : Fin 128) :
    ((cfg0.win 6).blk t).view.emb (ix2 r l) = (ix2 (row t r) l : S16384x128.Idx) := by
  blk_ext [idx t, row]

theorem half_mod (t : Fin cfg0.N) : (half t.val).val % 5 = min (t.val % 5) 2 := by
  have := lt80 t; show (5 * (t.val / 5) + min (t.val % 5) 2) % 80 % 5 = _; omega

theorem term_congr (h : Ideal .f32) (w : FVec Ideal S2048x7808 .f32) (k : Fin 2048) {i j : Fin 7808} (e : i.val = j.val) :
    h * w (ix2 k i) = h * w (ix2 k j) := by rw [Fin.ext e]

/-- The three result arrays after the run: the reference's terms of the launch arguments. -/
theorem final4 (c : Dev nD) : (dats m 0 c).arrAt 4 (cfgs 0).N
    = out16 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  idx_vars y
  rw [emb4, out16_at]
  refine (pay3_at _ _ _ _).trans (Finset.sum_congr rfl fun k _ => ?_)
  rw [normed_at, w_at, row_base]
  exact term_congr _ _ k (by show (half t.val).val % 5 * 1536 + y1.val = min (t.val % 5) 2 * 1536 + y1.val; rw [half_mod t])

theorem final5 (c : Dev nD) : (dats m 0 c).arrAt 5 (cfgs 0).N
    = out32 (m ((c : Thread nD τ).loc main_arg0)) (m ((c : Thread nD τ).loc main_arg1)) (m ((c : Thread nD τ).loc main_arg2)) := by
  refine (dats m 0 c).arrAt_eq_of_covers 5 _ (by decide +kernel) fun t ht y => ?_
  rw [flush5, decide_eq_true_iff] at ht
  blk_simp
  rw [after_5]
  idx_vars y
  rw [emb5, out32_at]
  refine (pay4_at _ _ _ _).trans (Finset.sum_congr rfl fun k _ => ?_)
  rw [normed_at, w_at, row_base]
  exact term_congr _ _ k (by show t.val % 5 * 1536 + y1.val = 4608 + ((t.val % 5 - 3) * 1536 + y1.val); omega)

theorem final6 (c : Dev nD) : (dats m 0 c).arrAt 6 (cfgs 0).N
    = outg (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after_6]
  idx_vars y
  rw [emb6, outg_at]
  refine (pay2_at _ _ _ _).trans (Finset.sum_congr rfl fun k _ => ?_)
  rw [normed_at, wg_at, row_base]

/-! ## The claims -/

theorem algebraic : Cert.algebraic_Kernel3Ideal_Reference3Ideal := by
  intro m g m' g' _ hagree
  refine ⟨fun c => out16 (m ((c : Thread nD τ).loc main_arg0)) (m ((c : Thread nD τ).loc main_arg1)) (m ((c : Thread nD τ).loc main_arg2)),
    fun c => out32 (m ((c : Thread nD τ).loc main_arg0)) (m ((c : Thread nD τ).loc main_arg1)) (m ((c : Thread nD τ).loc main_arg2)),
    fun c => outg (m ((c : Thread nD τ).loc main_arg0)) (m ((c : Thread nD τ).loc main_arg1)) (m ((c : Thread nD τ).loc main_arg2)), ?_, ?_⟩
  · exact (θ_run Cert.Kernel3Ideal.defs _ _).mono (fun _ h c => ⟨((h.1 c).1 4).trans (final4 m c), ((h.1 c).1 5).trans (final5 m c),
      ((h.1 c).1 6).trans (final6 m c), h.2.1 c⟩) (θ_run_and (run_main m g) (frame m g))
  · refine (θ_run Cert.Reference3Ideal.defs _ _).mono (fun _ h c => ?_) (Cert.Reference3Ideal.Term.run m' g')
    obtain ⟨h0, h1, h2⟩ := hagree c
    obtain ⟨r0, r1, r2, rest⟩ := h c
    rw [h0, h1, h2] at r0 r1 r2
    exact ⟨r0, r1, r2, rest⟩

/-- The frame of the ideal text, at the bits. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- It is the claim about the program as written, the two programs being the same text. -/
theorem frameBits_eq : FrameBits = Cert.quiescent_Kernel3 := by chain_rfl

/-- The frame of the program as written: the run of its ideal text, taken at the bits. -/
theorem frame_kernel : Cert.quiescent_Kernel3 := frameBits_eq.mp fun m ρ _ => frame (F := Bits) m ρ

end Cert.Kernel3Ideal.Proj

end
-- ==== Proof.CmpBody.lean ====
/-
  One grid point of the compression, at `Ideal`: what its two result blocks hold, of the blocks it is given.

  The body copies each head's paired keys and values, 16 tokens to a row, into a scratch of 512 rows: the four heads'
  stores, 64 rectangles, tile it, so it holds `gathered`. Two products with the first layer's halves, the second rolled
  by a row, make `hid`; the activation and the second layer make `both`. The keys' block is `both` in its first 64 lanes
  (`block9`); the values' block is the other 64, turned head by head (`block10`).
-/
module

public import proofs.«01_k».proof.Proof.Gen.Kernel4Ideal.Frame
public import proofs.«01_k».proof.Defs
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Cmp

open Cert.Kernel4Ideal Cert.Kernel4Ideal.Gen

/-- Head `g`'s paired keys and values. -/
def pick (x : Fin 4 → FVec Ideal S2048x128 .bf16) (g : ℕ) : FVec Ideal S2048x128 .bf16 :=
  if h : g < 4 then x ⟨g, h⟩ else x 0

/-- The scratch the body multiplies. -/
def gathered (x : Fin 4 → FVec Ideal S2048x128 .bf16) : FVec Ideal S512x2048 .f32 := fun y =>
  pick x ((y 0).val / 128) (ix2 ⟨(y 0).val % 128 * 16 + (y 1).val / 128, by have := (y 1).isLt; simp [Shape.size, S512x2048] at this; omega⟩
    ⟨(y 1).val % 128, by omega⟩)

/-- One of the scratch's 64 stores: rows `o …` and columns `q …` get every 16th row of head `o / 128`, from row `l`. -/
theorem piece {sg : RefSig} {κ : Kind} {sp : Space} (v : View sg κ sp S2048x128 .f32) (x : Fin 4 → FVec Ideal S2048x128 .bf16) (o q l : ℕ)
    (L : List (View.Piece (Elt Ideal) S2048x128 .f32)) (w : FVec Ideal S2048x128 .f32)
    (inb : ∀ a, (![0, 0] : Fin S2048x128.rank → ℕ) a + S2048x128.size a ≤ S2048x128.size a)
    (inbl : ∀ a : Fin S2048x128.rank, S128x128.size a = 0 ∨ (![l, 0] : Fin S2048x128.rank → ℕ) a + (![16, 1] : Fin S2048x128.rank → ℕ) a * (S128x128.size a - 1) < S2048x128.size a)
    (inbo : ∀ a, (![o, q] : Fin S512x2048.rank → ℕ) a + S128x128.size a ≤ S512x2048.size a)
    (sc : S128x128.ShapeCasts S128x128)
    (hw : w = pick x (o / 128)) (ho : o % 128 = 0) (hl : l < 16) (hq : q = 128 * l) (j : S128x128.Idx) :
    shapeCast S128x128 (v.readCov (⟨Rect.unit ![0, 0] S2048x128.size inb, w⟩ :: L)
        { off := ![l, 0], size := S128x128.size, stride := ![16, 1], inb := inbl }) sc j
      = gathered x ((Rect.unit (s := S512x2048) ![o, q] S128x128.size inbo).emb j) := by
  rw [shapeCast_self, View.readCov_eq_canon', View.canon_cons_unit_lit inb w L (by decide), hw]
  unfold gathered
  idx_vars j
  have e0 : ((Rect.unit (s := S512x2048) ![o, q] S128x128.size inbo).emb (ix2 j0 j1) 0).val = o + 1 * j0.val := rfl
  have e1 : ((Rect.unit (s := S512x2048) ![o, q] S128x128.size inbo).emb (ix2 j0 j1) 1).val = q + 1 * j1.val := rfl
  have g : (o + 1 * j0.val) / 128 = o / 128 := by omega
  rw [show pick x (((Rect.unit (s := S512x2048) ![o, q] S128x128.size inbo).emb (ix2 j0 j1) 0).val / 128) = pick x (o / 128) by rw [e0, g]]
  refine congrArg (pick x (o / 128)) (funext fun a => Fin.ext ?_)
  match a with
  | ⟨0, _⟩ =>
    show l + 16 * j0.val = (o + 1 * j0.val) % 128 * 16 + (q + 1 * j1.val) / 128
    omega
  | ⟨1, _⟩ =>
    show 0 + 1 * j1.val = (q + 1 * j1.val) % 128
    omega

/-- The copy of a head's block, read back. -/
theorem filled (a : Memref sig .tc .vmem S2048x128 .bf16) (ha : a.IsWhole) (x : FVec Ideal S2048x128 .bf16) :
    k0_pay1 (F := Ideal) (View.readAt (Elt Ideal) a.view (Rect.unit ![0, 0] S2048x128.size inb_S2048x128_S2048x128_0_0).toLoadRect (ha.unread x)) = x := by
  funext y
  simp only [k0_pay1, shapeCast_self, View.readAt_eq_ld, Memref.IsWhole.read_unread]
  show x _ = x y
  refine congrArg x (funext fun a => Fin.ext ?_)
  match a with
  | ⟨0, _⟩ => show 0 + 1 * (y 0).val = (y 0).val; omega
  | ⟨1, _⟩ => show 0 + 1 * (y 1).val = (y 1).val; omega

set_option maxHeartbeats 1000000 in
/-- Each of the 64 stores is a piece of `gathered`. -/
theorem scratch_pieces (c : Dev nD) (arg1 : Memref sig .tc .vmem S2048x128 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg13 : Memref sig .tc .vmem S2048x128 .f32) (x0 x1 x2 x3 : FVec Ideal S2048x128 .bf16) :
    View.PiecesOf (gathered ![x0, x1, x2, x3]) (kernelRun0_A.sl.HS0_64 (F := Ideal) c arg1 harg1 arg2 harg2 arg3 harg3 arg4 harg4 arg13 x0 x1 x2 x3) := by
  have h0 : k0_pay1 (F := Ideal) (View.readAt (Elt Ideal) arg1.view (Rect.unit ![0, 0] S2048x128.size inb_S2048x128_S2048x128_0_0).toLoadRect (harg1.unread x0))
      = pick ![x0, x1, x2, x3] (0 / 128) := filled arg1 harg1 x0
  have h1 : k0_pay18 (F := Ideal) (View.readAt (Elt Ideal) arg2.view (Rect.unit ![0, 0] S2048x128.size inb_S2048x128_S2048x128_0_0).toLoadRect (harg2.unread x1))
      = pick ![x0, x1, x2, x3] (128 / 128) := filled arg2 harg2 x1
  have h2 : k0_pay35 (F := Ideal) (View.readAt (Elt Ideal) arg3.view (Rect.unit ![0, 0] S2048x128.size inb_S2048x128_S2048x128_0_0).toLoadRect (harg3.unread x2))
      = pick ![x0, x1, x2, x3] (256 / 128) := filled arg3 harg3 x2
  have h3 : k0_pay52 (F := Ideal) (View.readAt (Elt Ideal) arg4.view (Rect.unit ![0, 0] S2048x128.size inb_S2048x128_S2048x128_0_0).toLoadRect (harg4.unread x3))
      = pick ![x0, x1, x2, x3] (384 / 128) := filled arg4 harg4 x3
  unfold kernelRun0_A.sl.HS0_64
  simp only [View.PiecesOf]
  repeat' apply And.intro
  all_goals first | trivial | (intro j; refine piece _ _ _ _ _ _ _ _ _ _ _ ?_ (by decide) (by decide) (by decide) j)
  all_goals with_reducible first | exact h0 | exact h1 | exact h2 | exact h3

/-- The scratch, read whole: the stores tile it. -/
theorem scratch (c : Dev nD) (arg1 : Memref sig .tc .vmem S2048x128 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg12 : Memref sig .tc .vmem S512x2048 .f32) (arg13 : Memref sig .tc .vmem S2048x128 .f32) (x0 x1 x2 x3 : FVec Ideal S2048x128 .bf16) :
    kernelRun0_A.sl.v280 (F := Ideal) c arg1 harg1 arg2 harg2 arg3 harg3 arg4 harg4 arg12 arg13 x0 x1 x2 x3 = gathered ![x0, x1, x2, x3] := by
  unfold kernelRun0_A.sl.v280
  rw [View.readCov_eq_canon']
  funext j
  have h := View.canon_append_of_piecesOf (gathered ![x0, x1, x2, x3]) [] _ (scratch_pieces c arg1 harg1 arg2 harg2 arg3 harg3 arg4 harg4 arg13 x0 x1 x2 x3) j
    (View.cover_of_tiledL (kernelRun0_A.sl.HS0_64 (F := Ideal) c arg1 harg1 arg2 harg2 arg3 harg3 arg4 harg4 arg13 x0 x1 x2 x3) S128x128.size (by sl_kernel_rfl) j)
  rw [List.append_nil] at h
  refine Eq.trans (congrArg _ (funext fun a => Fin.ext ?_)) h
  match a with
  | ⟨0, _⟩ => show 0 + 1 * (j 0).val = (j 0).val; omega
  | ⟨1, _⟩ => show 0 + 1 * (j 1).val = (j 1).val; omega

/-- The position rows of a block's first 16 tokens. -/
def pe0 (p : FVec Ideal S2x2048 .f32) : FVec Ideal S1x2048 .f32 := fun y => p (ix2 0 (y 1))
/-- The position rows of its second 16 tokens. -/
def pe1 (p : FVec Ideal S2x2048 .f32) : FVec Ideal S1x2048 .f32 := fun y => p (ix2 1 (y 1))

/-- The hidden layer before its activation. -/
def hid (x : FVec Ideal S512x2048 .f32) (p : FVec Ideal S2x2048 .f32) (wp wq : FVec Ideal S2048x512 .bf16) : FVec Ideal S512x512 .f32 :=
  k0_pay69 (F := Ideal) x (pe0 p) wp (pe1 p) wq

/-- Both outputs of every head, side by side. -/
def both (x : FVec Ideal S512x2048 .f32) (p : FVec Ideal S2x2048 .f32) (wp wq : FVec Ideal S2048x512 .bf16) (w2 : FVec Ideal S512x128 .bf16) : FVec Ideal S512x128 .f32 :=
  k0_pay71 (F := Ideal) (hid x p wp wq) (k0_pay70 (F := Ideal) x (pe0 p) wp (pe1 p) wq) (Scalar.ofBits .f32 0x3F4C422A#32) w2

/-- The activation, as the program computes it. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The hidden layer at an index: the row, and the row after it. -/
theorem hid_at (x : FVec Ideal S512x2048 .f32) (p : FVec Ideal S2x2048 .f32) (wp wq : FVec Ideal S2048x512 .bf16) (r h : Fin 512) :
    hid x p wp wq (ix2 r h) = ∑ k : Fin 2048, (x (ix2 r k) + p (ix2 0 k)) * wp (ix2 k h)
      + ∑ k : Fin 2048, (x (ix2 ⟨(r.val + 512 - 511) % 512, by omega⟩ k) + p (ix2 1 k)) * wq (ix2 k h) := by
  pointwise [hid, k0_pay69, pe0, pe1]

/-- The second layer at an index. -/
theorem both_at (x : FVec Ideal S512x2048 .f32) (p : FVec Ideal S2x2048 .f32) (wp wq : FVec Ideal S2048x512 .bf16) (w2 : FVec Ideal S512x128 .bf16) (r : Fin 512) (l : Fin 128) :
    both x p wp wq w2 (ix2 r l) = ∑ h : Fin 512, gelu (hid x p wp wq (ix2 r h)) * w2 (ix2 h l) := by
  have e : k0_pay70 (F := Ideal) x (pe0 p) wp (pe1 p) wq = fun y => hid x p wp wq y + Ideal.ofBits .f32 0x3D372713#32 * (hid x p wp wq y * (hid x p wp wq y * hid x p wp wq y)) := rfl
  unfold both
  rw [e]
  generalize hid x p wp wq = H
  pointwise [k0_pay71, gelu]

variable (m : (ℓ : Loc nD τ sig) → Buf (Elt Ideal) ℓ)

/-- The scratch at point `t`. -/
def rows (c : Dev nD) (t : Fin cfg0.N) : FVec Ideal S512x2048 .f32 := gathered ![iblk m c 0 t, iblk m c 1 t, iblk m c 2 t, iblk m c 3 t]

/-- The first row of the positions. -/
theorem row_0 (p : FVec Ideal S2x2048 .f32) : View.ld (Val := Elt Ideal) (e' := .f32) p (Rect.unit (s := S2x2048) ![0, 0] S1x2048.size inb_S2x2048_S1x2048_0_0) = pe0 p := by
  funext y
  refine congrArg p (funext fun a => Fin.ext ?_)
  match a with
  | ⟨0, _⟩ => show 0 + 1 * (y 0).val = 0; have : (y 0).val < 1 := (y 0).isLt; omega
  | ⟨1, _⟩ => show 0 + 1 * (y 1).val = (y 1).val; omega

/-- The second row of the positions. -/
theorem row_1 (p : FVec Ideal S2x2048 .f32) : View.ld (Val := Elt Ideal) (e' := .f32) p (Rect.unit (s := S2x2048) ![1, 0] S1x2048.size inb_S2x2048_S1x2048_1_0) = pe1 p := by
  funext y
  refine congrArg p (funext fun a => Fin.ext ?_)
  match a with
  | ⟨0, _⟩ => show 1 + 1 * (y 0).val = 1; have : (y 0).val < 1 := (y 0).isLt; omega
  | ⟨1, _⟩ => show 0 + 1 * (y 1).val = (y 1).val; omega

/-- The same, read from the buffer that holds them. -/
theorem rd_0 (a : Memref sig .tc .vmem S2x2048 .f32) (ha : a.IsWhole) (p : FVec Ideal S2x2048 .f32) :
    View.readAt (Elt Ideal) a.view (Rect.unit (s := S2x2048) ![0, 0] ![1, 2048] inb_S2x2048_S1x2048_0_0).toLoadRect (ha.unread p) = pe0 p := by
  rw [View.readAt_eq_ld, Memref.IsWhole.read_unread]; exact row_0 p
/-- The same, read from the buffer that holds them. -/
theorem rd_1 (a : Memref sig .tc .vmem S2x2048 .f32) (ha : a.IsWhole) (p : FVec Ideal S2x2048 .f32) :
    View.readAt (Elt Ideal) a.view (Rect.unit (s := S2x2048) ![1, 0] ![1, 2048] inb_S2x2048_S1x2048_1_0).toLoadRect (ha.unread p) = pe1 p := by
  rw [View.readAt_eq_ld, Memref.IsWhole.read_unread]; exact row_1 p
/-- A half of the first layer's weight, read from its buffer. -/
theorem rd_w (a : Memref sig .tc .vmem S2048x512 .bf16) (ha : a.IsWhole) (w : FVec Ideal S2048x512 .bf16) :
    View.readAt (Elt Ideal) a.view (Rect.unit (s := S2048x512) ![0, 0] ![2048, 512] inb_S2048x512_S2048x512_0_0).toLoadRect (ha.unread w) = w := by
  rw [View.readAt_eq_ld, Memref.IsWhole.read_unread]; exact View.ld_unit_lit _ _ (by decide)
/-- The second layer's weight, read from its buffer. -/
theorem rd_v (a : Memref sig .tc .vmem S512x128 .bf16) (ha : a.IsWhole) (w : FVec Ideal S512x128 .bf16) :
    View.readAt (Elt Ideal) a.view (Rect.unit (s := S512x128) ![0, 0] ![512, 128] inb_S512x128_S512x128_0_0).toLoadRect (ha.unread w) = w := by
  rw [View.readAt_eq_ld, Memref.IsWhole.read_unread]; exact View.ld_unit_lit _ _ (by decide)

/-- The keys' block, in the lanes that hold keys. -/
theorem block9 (c : Dev nD) (t : Fin cfg0.N) (r : Fin 512) (l : Fin 128) (hl : l.val < 64) : (outsAt0 m c t).1 (ix2 r l)
    = both (rows m c t) (iblk m c 4 t) (iblk m c 5 t) (iblk m c 6 t) (iblk m c 7 t) (ix2 r l) := by
  have e : (outsAt0 m c t).1 = k0_pay72 (F := Ideal) (hid (rows m c t) (iblk m c 4 t) (iblk m c 5 t) (iblk m c 6 t))
      (k0_pay70 (F := Ideal) (rows m c t) (pe0 (iblk m c 4 t)) (iblk m c 5 t) (pe1 (iblk m c 4 t)) (iblk m c 6 t)) (Scalar.ofBits .f32 0x3F4C422A#32)
      (iblk m c 7 t) (iblk m c 8 t) := by
    unfold outsAt0 out0_A_9
    dsimp only
    rw [View.read_writes_junk_eq_canon]
    unfold kernelRun0_A
    dsimp only
    unfold kernelRun0_A.sl.r_1 kernelRun0_A.sl.r_2
    rw [View.canon_cons_unit_lit _ _ _ (by decide)]
    simp only [scratch, rd_0, rd_1, rd_w, rd_v]
    rfl
  rw [e]
  have hc : IntOp.cmpi .slt (BitVec.ofNat 32 l.val) 64#32 = 1#1 :=
    (by decide +kernel : ∀ l : Fin 128, l.val < 64 → IntOp.cmpi .slt (BitVec.ofNat 32 l.val) 64#32 = 1#1) l hl
  pointwise [k0_pay72, both]
  rw [hc]
  rfl

/-- The values of every head, turned. -/
def turned (b : FVec Ideal S512x128 .f32) : FVec Ideal S256x128 .bf16 := fun y =>
  b (ix2 ⟨(y 0).val / 64 * 128 + (y 1).val, by have := (y 0).isLt; have := (y 1).isLt; simp [Shape.size, S256x128] at *; omega⟩ ⟨64 + (y 0).val % 64, by omega⟩)

/-- Head 0's values, turned. -/
theorem pay73_at (H C : FVec Ideal S512x512 .f32) (z : Ideal .f32) (w : FVec Ideal S512x128 .bf16) (a : Fin 64) (b : Fin 128) :
    k0_pay73 (F := Ideal) H C z w (ix2 a b) = k0_pay71 (F := Ideal) H C z w (ix2 ⟨b.val, by omega⟩ ⟨64 + a.val, by omega⟩) := by
  pointwise [k0_pay73]
/-- Head 1's values, turned. -/
theorem pay74_at (H C : FVec Ideal S512x512 .f32) (z : Ideal .f32) (w : FVec Ideal S512x128 .bf16) (a : Fin 64) (b : Fin 128) :
    k0_pay74 (F := Ideal) H C z w (ix2 a b) = k0_pay71 (F := Ideal) H C z w (ix2 ⟨128 + b.val, by omega⟩ ⟨64 + a.val, by omega⟩) := by
  pointwise [k0_pay74]
/-- Head 2's values, turned. -/
theorem pay75_at (H C : FVec Ideal S512x512 .f32) (z : Ideal .f32) (w : FVec Ideal S512x128 .bf16) (a : Fin 64) (b : Fin 128) :
    k0_pay75 (F := Ideal) H C z w (ix2 a b) = k0_pay71 (F := Ideal) H C z w (ix2 ⟨256 + b.val, by omega⟩ ⟨64 + a.val, by omega⟩) := by
  pointwise [k0_pay75]
/-- Head 3's values, turned. -/
theorem pay76_at (H C : FVec Ideal S512x512 .f32) (z : Ideal .f32) (w : FVec Ideal S512x128 .bf16) (a : Fin 64) (b : Fin 128) :
    k0_pay76 (F := Ideal) H C z w (ix2 a b) = k0_pay71 (F := Ideal) H C z w (ix2 ⟨384 + b.val, by omega⟩ ⟨64 + a.val, by omega⟩) := by
  pointwise [k0_pay76]

/-- The values' block: four stores, one a head. -/
theorem block10 (c : Dev nD) (t : Fin cfg0.N) : (outsAt0 m c t).2
    = turned (both (rows m c t) (iblk m c 4 t) (iblk m c 5 t) (iblk m c 6 t) (iblk m c 7 t)) := by
  unfold outsAt0 out0_A_10
  dsimp only
  rw [View.read_writes_junk_eq_canon]
  unfold kernelRun0_A
  dsimp only
  unfold kernelRun0_A.sl.r_3 kernelRun0_A.sl.r_1 kernelRun0_A.sl.r_2
  simp only [scratch, rd_0, rd_1, rd_w, rd_v]
  funext y
  refine View.canon_apply_of_pieces (Val := Elt Ideal) (e := .bf16) (turned (both (rows m c t) (iblk m c 4 t) (iblk m c 5 t) (iblk m c 6 t) (iblk m c 7 t))) _ (View.PiecesOf.mem ?_) y
    (View.cover_of_tiledL (s := S256x128) _ S64x128.size (by sl_kernel_rfl) y)
  simp only [View.PiecesOf]
  refine ⟨fun x => ?_, fun x => ?_, fun x => ?_, fun x => ?_, trivial⟩
  all_goals idx_vars x
  · refine (pay76_at _ _ _ _ x0 x1).trans (congrArg (both _ _ _ _ _) (funext fun a => Fin.ext ?_))
    match a with
    | ⟨0, _⟩ => show 384 + x1.val = (192 + 1 * x0.val) / 64 * 128 + (0 + 1 * x1.val); omega
    | ⟨1, _⟩ => show 64 + x0.val = 64 + (192 + 1 * x0.val) % 64; omega
  · refine (pay75_at _ _ _ _ x0 x1).trans (congrArg (both _ _ _ _ _) (funext fun a => Fin.ext ?_))
    match a with
    | ⟨0, _⟩ => show 256 + x1.val = (128 + 1 * x0.val) / 64 * 128 + (0 + 1 * x1.val); omega
    | ⟨1, _⟩ => show 64 + x0.val = 64 + (128 + 1 * x0.val) % 64; omega
  · refine (pay74_at _ _ _ _ x0 x1).trans (congrArg (both _ _ _ _ _) (funext fun a => Fin.ext ?_))
    match a with
    | ⟨0, _⟩ => show 128 + x1.val = (64 + 1 * x0.val) / 64 * 128 + (0 + 1 * x1.val); omega
    | ⟨1, _⟩ => show 64 + x0.val = 64 + (64 + 1 * x0.val) % 64; omega
  · refine (pay73_at _ _ _ _ x0 x1).trans (congrArg (both _ _ _ _ _) (funext fun a => Fin.ext ?_))
    match a with
    | ⟨0, _⟩ => show x1.val = (0 + 1 * x0.val) / 64 * 128 + (0 + 1 * x1.val); omega
    | ⟨1, _⟩ => show 64 + x0.val = 64 + (0 + 1 * x0.val) % 64; omega

end Cert.Kernel4Ideal.Cmp
-- ==== Proof.CmpHost.lean ====
/-
  What the host gives the compression: keys and values side by side, and the weights block diagonal, each at an index;
  then the blocks of a grid point, of the arguments, and the scratch of a point as token rows of the paired array.
-/
module

public import Idealize.ShloMosaic.Lib.StableHlo.RunRead
public import proofs.«01_k».proof.Proof.CmpBody

@[expose] public section

set_option maxRecDepth 16384

noncomputable section

open Idealize.ShloMosaic Idealize.ShloMosaic.TcCoe Idealize.SL.Sem
open Idealize.ShloMosaic.Pipeline (Dat)

namespace Cert.Kernel4Ideal.Cmp

open Cert.Kernel4Ideal Cert.Kernel4Ideal.Gen

/-! ## Indices by their values -/

/-- Indices with equal coordinates are equal. -/
theorem ix2_ext {a b : ℕ} {i i' : Fin a} {j j' : Fin b} (hi : i.val = i'.val) (hj : j.val = j'.val) : ix2 i j = ix2 i' j' := by
  rw [Fin.ext hi, Fin.ext hj]
/-- The same, of three axes. -/
theorem ix3_ext {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-! ## The operands, of the arguments -/

/-- Keys and values side by side, head by head. -/
def pair (k v : FVec Ideal S8x2048x256 .f32) : FVec Ideal S16384x512 .bf16 :=
  truncf .bf16 (shapeCast S16384x512 (concatenate S8x2048x4x128 3 [⟨S8x2048x4x64, shapeCast S8x2048x4x64 k shapeCasts_S8x2048x256_S8x2048x4x64⟩,
    ⟨S8x2048x4x64, shapeCast S8x2048x4x64 v shapeCasts_S8x2048x256_S8x2048x4x64⟩] concatenates_S8x2048x4x64_S8x2048x4x64_S8x2048x4x128_d3) shapeCasts_S8x2048x4x128_S16384x512) bitsLt_bf16_f32

/-- The keys' lanes. -/
theorem pair_k (k v : FVec Ideal S8x2048x256 .f32) (R : Fin 16384) (g : Fin 4) (d : Fin 64) :
    pair k v (ix2 R ⟨g.val * 128 + d.val, by omega⟩) = k (ix3 ⟨R.val / 2048, by omega⟩ ⟨R.val % 2048, by omega⟩ ⟨g.val * 64 + d.val, by omega⟩) := by
  pointwise [pair]
  rw [dif_pos (by omega)]
  exact congrArg k (ix3_ext rfl rfl (by dsimp only; omega))

/-- The values' lanes. -/
theorem pair_v (k v : FVec Ideal S8x2048x256 .f32) (R : Fin 16384) (g : Fin 4) (d : Fin 64) :
    pair k v (ix2 R ⟨g.val * 128 + (64 + d.val), by omega⟩) = v (ix3 ⟨R.val / 2048, by omega⟩ ⟨R.val % 2048, by omega⟩ ⟨g.val * 64 + d.val, by omega⟩) := by
  pointwise [pair]
  rw [dif_neg (by omega)]
  exact congrArg v (ix3_ext rfl rfl (by dsimp only; omega))

/-- The position embeddings side by side. -/
def pes (pk pv : FVec Ideal S1x32x64 .f32) : FVec Ideal S2x2048 .f32 :=
  shapeCast S2x2048 (concatenate S2x16x128 2 [⟨S2x16x64, shapeCast S2x16x64 (shapeCast S32x64 pk shapeCasts_S1x32x64_S32x64) shapeCasts_S32x64_S2x16x64⟩,
    ⟨S2x16x64, shapeCast S2x16x64 (shapeCast S32x64 pv shapeCasts_S1x32x64_S32x64) shapeCasts_S32x64_S2x16x64⟩] concatenates_S2x16x64_S2x16x64_S2x16x128_d2) shapeCasts_S2x16x128_S2x2048

/-- The keys' lanes. -/
theorem pes_k (pk pv : FVec Ideal S1x32x64 .f32) (i : Fin 2) (l : Fin 16) (d : Fin 64) :
    pes pk pv (ix2 i ⟨l.val * 128 + d.val, by omega⟩) = pk (ix3 0 ⟨i.val * 16 + l.val, by omega⟩ d) := by
  pointwise [pes]
  rw [dif_pos (by omega)]
  exact congrArg pk (ix3_ext rfl rfl (by dsimp only; omega))

/-- The values' lanes. -/
theorem pes_v (pk pv : FVec Ideal S1x32x64 .f32) (i : Fin 2) (l : Fin 16) (d : Fin 64) :
    pes pk pv (ix2 i ⟨l.val * 128 + (64 + d.val), by omega⟩) = pv (ix3 0 ⟨i.val * 16 + l.val, by omega⟩ d) := by
  pointwise [pes]
  rw [dif_neg (by omega)]
  exact congrArg pv (ix3_ext rfl rfl (by dsimp only; omega))

/-- One half of a first-layer weight. -/
def part0 (w : FVec Ideal S1x2048x256 .f32) : FVec Ideal S16x64x256 .f32 :=
  shapeCast S16x64x256 (extractStridedSlice S1x16x64x256 ![0, 0, 0, 0] (shapeCast S2x16x64x256 (shapeCast S2048x256 w shapeCasts_S1x2048x256_S2048x256)
    shapeCasts_S2048x256_S2x16x64x256) slices_S2x16x64x256_S1x16x64x256_0_0_0_0) shapeCasts_S1x16x64x256_S16x64x256
/-- The other half. -/
def part1 (w : FVec Ideal S1x2048x256 .f32) : FVec Ideal S16x64x256 .f32 :=
  shapeCast S16x64x256 (extractStridedSlice S1x16x64x256 ![1, 0, 0, 0] (shapeCast S2x16x64x256 (shapeCast S2048x256 w shapeCasts_S1x2048x256_S2048x256)
    shapeCasts_S2048x256_S2x16x64x256) slices_S2x16x64x256_S1x16x64x256_1_0_0_0) shapeCasts_S1x16x64x256_S16x64x256

/-- The first half holds the weights of a block's first 16 tokens. -/
theorem part0_at (w : FVec Ideal S1x2048x256 .f32) (l : Fin 16) (d : Fin 64) (h : Fin 256) :
    part0 w (ix3 l d h) = w (ix3 0 ⟨l.val * 64 + d.val, by omega⟩ h) := by
  pointwise [part0]
/-- The second half holds those of its second 16. -/
theorem part1_at (w : FVec Ideal S1x2048x256 .f32) (l : Fin 16) (d : Fin 64) (h : Fin 256) :
    part1 w (ix3 l d h) = w (ix3 0 ⟨1024 + l.val * 64 + d.val, by omega⟩ h) := by
  pointwise [part1]

/-- The zeros beside a half. -/
def zero3 : FVec Ideal S16x64x256 .f32 := broadcastInDim S16x64x256 ![] bcast_S_S16x64x256 (constant S_ .f32 0x00000000#32)

/-- The block-diagonal weight of two halves. -/
def diag (a b : FVec Ideal S16x64x256 .f32) : FVec Ideal S2048x512 .bf16 :=
  truncf .bf16 (shapeCast S2048x512 (concatenate S16x128x512 1
    [⟨S16x64x512, concatenate S16x64x512 2 [⟨S16x64x256, a⟩, ⟨S16x64x256, zero3⟩] concatenates_S16x64x256_S16x64x256_S16x64x512_d2⟩,
     ⟨S16x64x512, concatenate S16x64x512 2 [⟨S16x64x256, zero3⟩, ⟨S16x64x256, b⟩] concatenates_S16x64x256_S16x64x256_S16x64x512_d2⟩]
    concatenates_S16x64x512_S16x64x512_S16x128x512_d1) shapeCasts_S16x128x512_S2048x512) bitsLt_bf16_f32

/-- Keys' lanes, keys' columns: the keys' weight. -/
theorem diag_kk (a b : FVec Ideal S16x64x256 .f32) (l : Fin 16) (d : Fin 64) (h : Fin 256) :
    diag a b (ix2 ⟨l.val * 128 + d.val, by omega⟩ ⟨h.val, by omega⟩) = a (ix3 l d h) := by
  pointwise [diag, zero3]
  rw [dif_pos (by omega)]
  exact congrArg a (ix3_ext rfl (by show (l.val * 128 + d.val) % 128 = d.val; omega) rfl)
/-- Keys' lanes, values' columns: zero. -/
theorem diag_kv (a b : FVec Ideal S16x64x256 .f32) (l : Fin 16) (d : Fin 64) (h : Fin 256) :
    diag a b (ix2 ⟨l.val * 128 + d.val, by omega⟩ ⟨256 + h.val, by omega⟩) = 0 := by
  pointwise [diag, zero3]
  rw [dif_pos (by omega)]
/-- Values' lanes, keys' columns: zero. -/
theorem diag_vk (a b : FVec Ideal S16x64x256 .f32) (l : Fin 16) (d : Fin 64) (h : Fin 256) :
    diag a b (ix2 ⟨l.val * 128 + (64 + d.val), by omega⟩ ⟨h.val, by omega⟩) = 0 := by
  pointwise [diag, zero3]
  rw [dif_neg (by omega)]
/-- Values' lanes, values' columns: the values' weight. -/
theorem diag_vv (a b : FVec Ideal S16x64x256 .f32) (l : Fin 16) (d : Fin 64) (h : Fin 256) :
    diag a b (ix2 ⟨l.val * 128 + (64 + d.val), by omega⟩ ⟨256 + h.val, by omega⟩) = b (ix3 l d h) := by
  pointwise [diag, zero3]
  rw [dif_neg (by omega)]
  exact congrArg b (ix3_ext rfl (by show (l.val * 128 + (64 + d.val)) % 128 - 64 = d.val; omega) rfl)

/-- The zeros beside a second-layer weight. -/
def zero2 : FVec Ideal S256x64 .f32 := broadcastInDim S256x64 ![] bcast_S_S256x64 (constant S_ .f32 0x00000000#32)

/-- The block-diagonal second-layer weight. -/
def diag2 (a b : FVec Ideal S1x256x64 .f32) : FVec Ideal S512x128 .bf16 :=
  truncf .bf16 (concatenate S512x128 0
    [⟨S256x128, concatenate S256x128 1 [⟨S256x64, shapeCast S256x64 a shapeCasts_S1x256x64_S256x64⟩, ⟨S256x64, zero2⟩] concatenates_S256x64_S256x64_S256x128_d1⟩,
     ⟨S256x128, concatenate S256x128 1 [⟨S256x64, zero2⟩, ⟨S256x64, shapeCast S256x64 b shapeCasts_S1x256x64_S256x64⟩] concatenates_S256x64_S256x64_S256x128_d1⟩]
    concatenates_S256x128_S256x128_S512x128_d0) bitsLt_bf16_f32

/-- Keys to keys. -/
theorem diag2_kk (a b : FVec Ideal S1x256x64 .f32) (h : Fin 256) (e : Fin 64) :
    diag2 a b (ix2 ⟨h.val, by omega⟩ ⟨e.val, by omega⟩) = a (ix3 0 h e) := by
  pointwise [diag2, zero2]
/-- Values to keys: zero. -/
theorem diag2_vk (a b : FVec Ideal S1x256x64 .f32) (h : Fin 256) (e : Fin 64) :
    diag2 a b (ix2 ⟨256 + h.val, by omega⟩ ⟨e.val, by omega⟩) = 0 := by
  pointwise [diag2, zero2]
/-- Keys to values: zero. -/
theorem diag2_kv (a b : FVec Ideal S1x256x64 .f32) (h : Fin 256) (e : Fin 64) :
    diag2 a b (ix2 ⟨h.val, by omega⟩ ⟨64 + e.val, by omega⟩) = 0 := by
  pointwise [diag2, zero2]
/-- Values to values. -/
theorem diag2_vv (a b : FVec Ideal S1x256x64 .f32) (h : Fin 256) (e : Fin 64) :
    diag2 a b (ix2 ⟨256 + h.val, by omega⟩ ⟨64 + e.val, by omega⟩) = b (ix3 0 h e) := by
  pointwise [diag2, zero2]

/-! ## The operands as the region finds them, and their blocks -/

variable (m : (ℓ : Loc nD τ sig) → Buf (Elt Ideal) ℓ)

/-- The keys. -/
def argK (c : Dev nD) : FVec Ideal S8x2048x256 .f32 := m ((c : Thread nD τ).loc main_arg0)
/-- The values. -/
def argV (c : Dev nD) : FVec Ideal S8x2048x256 .f32 := m ((c : Thread nD τ).loc main_arg1)
/-- The keys' positions. -/
def argPk (c : Dev nD) : FVec Ideal S1x32x64 .f32 := m ((c : Thread nD τ).loc main_arg2)
/-- The keys' first layer. -/
def argAk (c : Dev nD) : FVec Ideal S1x2048x256 .f32 := m ((c : Thread nD τ).loc main_arg3)
/-- The keys' second layer. -/
def argBk (c : Dev nD) : FVec Ideal S1x256x64 .f32 := m ((c : Thread nD τ).loc main_arg4)
/-- The values' positions. -/
def argPv (c : Dev nD) : FVec Ideal S1x32x64 .f32 := m ((c : Thread nD τ).loc main_arg5)
/-- The values' first layer. -/
def argAv (c : Dev nD) : FVec Ideal S1x2048x256 .f32 := m ((c : Thread nD τ).loc main_arg6)
/-- The values' second layer. -/
def argBv (c : Dev nD) : FVec Ideal S1x256x64 .f32 := m ((c : Thread nD τ).loc main_arg7)

/-- The first operand, as the region finds it. -/
theorem V_pair (c : Dev nD) : V m c main_v4 = pair (argK m c) (argV m c) := by
  unfold_abbrev_sides
  simp only [List.flatten_cons, List.flatten_nil, List.cons_append, List.nil_append, List.append_nil]
  after_reads_simp
  try rfl
/-- The positions, as the region finds them. -/
theorem V_pes (c : Dev nD) : V m c main_v43 = pes (argPk m c) (argPv m c) := by
  unfold_abbrev_sides
  simp only [List.flatten_cons, List.flatten_nil, List.cons_append, List.nil_append, List.append_nil]
  after_reads_simp
  try rfl
/-- The first half of the first layer. -/
theorem V_wp (c : Dev nD) : V m c main_v20 = diag (part0 (argAk m c)) (part0 (argAv m c)) := by
  unfold_abbrev_sides
  simp only [List.flatten_cons, List.flatten_nil, List.cons_append, List.nil_append, List.append_nil]
  after_reads_simp
  try rfl
/-- The second half. -/
theorem V_wq (c : Dev nD) : V m c main_v29 = diag (part1 (argAk m c)) (part1 (argAv m c)) := by
  unfold_abbrev_sides
  simp only [List.flatten_cons, List.flatten_nil, List.cons_append, List.nil_append, List.append_nil]
  after_reads_simp
  try rfl
/-- The second layer. -/
theorem V_w2 (c : Dev nD) : V m c main_v37 = diag2 (argBk m c) (argBv m c) := by
  unfold_abbrev_sides
  simp only [List.flatten_cons, List.flatten_nil, List.cons_append, List.nil_append, List.append_nil]
  after_reads_simp
  try rfl

/-- The block every window is at, at each of the 8 points. -/
theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![0, 0]
    ∧ win0_7.index t = ![0, 0] ∧ win0_9.index t = ![t.val, 0] ∧ win0_10.index t = ![t.val, 0] :=
  (by decide +kernel : ∀ t : Fin grid0.N, _)

/-- There are 8 points. -/
theorem lt8 (t : Fin cfg0.N) : t.val < 8 := by have h := t.isLt; have h' : cfg0.N = 8 := N_0; omega

/-- The token row that row `s` of point `t`'s block is. -/
def row (t : Fin cfg0.N) (s : Fin 2048) : Fin 16384 := ⟨t.val * 2048 + s.val, by have := lt8 t; omega⟩

/-- Head 0's block. -/
theorem x0_at (c : Dev nD) (t : Fin cfg0.N) (s : Fin 2048) (j : Fin 128) :
    iblk m c 0 t (ix2 s j) = pair (argK m c) (argV m c) (ix2 (row t s) ⟨0 * 128 + j.val, by omega⟩) := by
  have e : iblk m c 0 t (ix2 s j) = V m c main_v4 (ix2 (row t s) ⟨0 * 128 + j.val, by omega⟩) := by blk_ext [iblk, idx t, row]
  exact e.trans (congrFun (V_pair m c) _)
/-- Head 1's block. -/
theorem x1_at (c : Dev nD) (t : Fin cfg0.N) (s : Fin 2048) (j : Fin 128) :
    iblk m c 1 t (ix2 s j) = pair (argK m c) (argV m c) (ix2 (row t s) ⟨1 * 128 + j.val, by omega⟩) := by
  have e : iblk m c 1 t (ix2 s j) = V m c main_v4 (ix2 (row t s) ⟨1 * 128 + j.val, by omega⟩) := by blk_ext [iblk, idx t, row]
  exact e.trans (congrFun (V_pair m c) _)
/-- Head 2's block. -/
theorem x2_at (c : Dev nD) (t : Fin cfg0.N) (s : Fin 2048) (j : Fin 128) :
    iblk m c 2 t (ix2 s j) = pair (argK m c) (argV m c) (ix2 (row t s) ⟨2 * 128 + j.val, by omega⟩) := by
  have e : iblk m c 2 t (ix2 s j) = V m c main_v4 (ix2 (row t s) ⟨2 * 128 + j.val, by omega⟩) := by blk_ext [iblk, idx t, row]
  exact e.trans (congrFun (V_pair m c) _)
/-- Head 3's block. -/
theorem x3_at (c : Dev nD) (t : Fin cfg0.N) (s : Fin 2048) (j : Fin 128) :
    iblk m c 3 t (ix2 s j) = pair (argK m c) (argV m c) (ix2 (row t s) ⟨3 * 128 + j.val, by omega⟩) := by
  have e : iblk m c 3 t (ix2 s j) = V m c main_v4 (ix2 (row t s) ⟨3 * 128 + j.val, by omega⟩) := by blk_ext [iblk, idx t, row]
  exact e.trans (congrFun (V_pair m c) _)
/-- A choice among four arrays, read at one index. -/
theorem four {α β : Type} (x0 x1 x2 x3 : α → β) (z : α) (p : Fin 4 → β)
    (h0 : x0 z = p 0) (h1 : x1 z = p 1) (h2 : x2 z = p 2) (h3 : x3 z = p 3) (g : Fin 4) :
    (![x0, x1, x2, x3] : Fin 4 → α → β) g z = p g := by
  match g with
  | 0 => exact h0
  | 1 => exact h1
  | 2 => exact h2
  | 3 => exact h3

/-- The pair block `g` of point `t` at an index. -/
theorem x_at (c : Dev nD) (t : Fin cfg0.N) (g : Fin 4) (s : Fin 2048) (j : Fin 128) :
    (![iblk m c 0 t, iblk m c 1 t, iblk m c 2 t, iblk m c 3 t] : Fin 4 → FVec Ideal S2048x128 .bf16) g (ix2 s j)
      = pair (argK m c) (argV m c) (ix2 (row t s) ⟨g.val * 128 + j.val, by omega⟩) := by
  exact four _ _ _ _ _ (fun g : Fin 4 => pair (argK m c) (argV m c) (ix2 (row t s) ⟨g.val * 128 + j.val, by omega⟩))
    (x0_at m c t s j) (x1_at m c t s j) (x2_at m c t s j) (x3_at m c t s j) g

/-- The positions' block is the whole array. -/
theorem b4 (c : Dev nD) (t : Fin cfg0.N) : (iblk m c 4 t : FVec Ideal S2x2048 .f32) = pes (argPk m c) (argPv m c) := by
  rw [← V_pes]; funext y; idx_vars y; blk_ext [iblk, idx t]
/-- So is the first half's. -/
theorem b5 (c : Dev nD) (t : Fin cfg0.N) : (iblk m c 5 t : FVec Ideal S2048x512 .bf16) = diag (part0 (argAk m c)) (part0 (argAv m c)) := by
  rw [← V_wp]; funext y; idx_vars y; blk_ext [iblk, idx t]
/-- So is the second half's. -/
theorem b6 (c : Dev nD) (t : Fin cfg0.N) : (iblk m c 6 t : FVec Ideal S2048x512 .bf16) = diag (part1 (argAk m c)) (part1 (argAv m c)) := by
  rw [← V_wq]; funext y; idx_vars y; blk_ext [iblk, idx t]
/-- So is the second layer's. -/
theorem b7 (c : Dev nD) (t : Fin cfg0.N) : (iblk m c 7 t : FVec Ideal S512x128 .bf16) = diag2 (argBk m c) (argBv m c) := by
  rw [← V_w2]; funext y; idx_vars y; blk_ext [iblk, idx t]

/-- The scratch at an index: the token that a block's part starts at, moved by the part's column. -/
theorem rows_at (c : Dev nD) (t : Fin cfg0.N) (g : Fin 4) (n : Fin 128) (l : Fin 16) (j : Fin 128) (R : Fin 512) (C : Fin 2048)
    (hR : R.val = g.val * 128 + n.val) (hC : C.val = l.val * 128 + j.val) :
    rows m c t (ix2 R C) = pair (argK m c) (argV m c) (ix2 (row t ⟨n.val * 16 + l.val, by omega⟩) ⟨g.val * 128 + j.val, by omega⟩) := by
  rw [← x_at]
  show pick _ (R.val / 128) _ = _
  have hg : R.val / 128 = g.val := by omega
  rw [hg, pick, dif_pos g.isLt]
  exact congrArg _ (ix2_ext (by show R.val % 128 * 16 + C.val / 128 = n.val * 16 + l.val; omega) (by show C.val % 128 = j.val; omega))

end Cert.Kernel4Ideal.Cmp
-- ==== Proof.CmpRef.lean ====
/-
  The compression's reference at an index: each of its two results is, at batch row `b`, block `n`, head `g` and lane
  `e`, `Σ_h gelu (cell … h) * w2 h e` (`out`), where `cell` is the block's first layer, written as its two halves: the
  16 tokens from `16 n` on against the first 1024 rows of the weight, the 16 after them against the last 1024.
-/
module

public import proofs.«01_k».proof.Proof.CmpBody
public import proofs.«01_k».proof.Proof.Gen.Reference4Ideal
public import proofs.«01_k».proof.Proof.Gen.Reference4Ideal.Run

@[expose] public section

set_option maxRecDepth 65536

noncomputable section

open Idealize.ShloMosaic Idealize.ShloMosaic.TcCoe Idealize.SL.Sem
open Cert.Kernel4Ideal.Cmp (gelu)

namespace Cert.Reference4Ideal.Term

open Cert.Reference4Ideal Cert.Reference4Ideal.Gen

/-! ## Sums over a range cut in parts -/

/-- A sum over `n * m` as `n` sums over `m`. -/
theorem sum_split {N : Nat} (n m : Nat) (h : N = n * m) (f : Fin N → EReal) :
    ∑ K, f K = ∑ l : Fin n, ∑ d : Fin m, f ⟨l.val * m + d.val, by
      have h1 : l.val * m + m ≤ n * m := by rw [← Nat.succ_mul]; exact Nat.mul_le_mul_right m l.isLt
      have h2 := d.isLt; omega⟩ := by
  subst h
  rw [← finProdFinEquiv.sum_comp, Fintype.sum_prod_type]
  refine Finset.sum_congr rfl fun l _ => Finset.sum_congr rfl fun d _ => congrArg f (Fin.ext ?_)
  show d.val + m * l.val = l.val * m + d.val
  rw [Nat.mul_comm, Nat.add_comm]

/-- A sum over `a + b` as the sum over the first `a` and the one over the last `b`. -/
theorem sum_halves {N : Nat} (a b : Nat) (h : N = a + b) (f : Fin N → EReal) :
    ∑ K, f K = ∑ i : Fin a, f ⟨i.val, by omega⟩ + ∑ j : Fin b, f ⟨a + j.val, by omega⟩ := by
  subst h
  exact Fin.sum_univ_add f

/-! ## The compression at an index -/

/-- The first layer of block `n` of head `g` at hidden unit `h`. -/
def cell (kv : FVec Ideal S8x2048x256 .f32) (pe : FVec Ideal S1x32x64 .f32) (w1 : FVec Ideal S1x2048x256 .f32)
    (b : Fin 8) (n : Fin 127) (g : Fin 4) (h : Fin 256) : EReal :=
  (∑ l : Fin 16, ∑ d : Fin 64, (kv (ix3 b ⟨n.val * 16 + l.val, by omega⟩ ⟨g.val * 64 + d.val, by omega⟩)
      + pe (ix3 0 ⟨l.val, by omega⟩ d)) * w1 (ix3 0 ⟨l.val * 64 + d.val, by omega⟩ h))
    + ∑ l : Fin 16, ∑ d : Fin 64, (kv (ix3 b ⟨n.val * 16 + 16 + l.val, by omega⟩ ⟨g.val * 64 + d.val, by omega⟩)
      + pe (ix3 0 ⟨16 + l.val, by omega⟩ d)) * w1 (ix3 0 ⟨1024 + (l.val * 64 + d.val), by omega⟩ h)

/-- The compressed block. -/
def out (kv : FVec Ideal S8x2048x256 .f32) (pe : FVec Ideal S1x32x64 .f32) (w1 : FVec Ideal S1x2048x256 .f32)
    (w2 : FVec Ideal S1x256x64 .f32) (b : Fin 8) (n : Fin 127) (g : Fin 4) (e : Fin 64) : EReal :=
  ∑ h : Fin 256, gelu (cell kv pe w1 b n g h) * w2 (ix3 0 h e)

/-! ## The reference's terms -/

/-- The start indices of the gather, from the table of tokens. -/
def toks (T : IVec S127x32 32) : IVec S127x32x1 32 :=
  broadcastInDim S127x32x1 ![0, 1] bcast_S127x32_S127x32x1_0_1
    (select (constantI S127x32 1 0#1) (addi T (broadcastInDim S127x32 ![] bcast_S_S127x32 (constantI S_ 32 2048#32))) T)

/-- The blocks' tokens with the position terms added. -/
def blocks (T : IVec S127x32 32) (kv : FVec Ideal S8x2048x256 .f32) (pe : FVec Ideal S1x32x64 .f32) : FVec Ideal S8x127x32x4x64 .f32 :=
  addf (Host.gather gather_S8x2048x4x64_S127x32x1_S8x127x32x4x64_034_1_n_n_1_2_81464 (shapeCast _ kv shapeCasts_S8x2048x256_S8x2048x4x64) (toks T))
    (broadcastInDim S8x127x32x4x64 ![0, 1, 2, 3, 4] bcast_S1x1x32x1x64_S8x127x32x4x64_0_1_2_3_4
      (broadcastInDim S1x1x32x1x64 ![2, 3, 4] bcast_S32x1x64_S1x1x32x1x64_2_3_4
        (broadcastInDim S32x1x64 ![0, 2] bcast_S32x64_S32x1x64_0_2 (shapeCast _ pe shapeCasts_S1x32x64_S32x64))))

/-- The first layer of the blocks. -/
def first (B : FVec Ideal S8x127x32x4x64 .f32) (w1 : FVec Ideal S1x2048x256 .f32) : FVec Ideal S8x127x4x256 .f32 :=
  Host.dotGeneral dot_S8x127x4x2048_S2048x256_S8x127x4x256_3_0_012_1_n_n none
    (shapeCast _ (transpose S8x127x4x32x64 [0, 1, 3, 2, 4] B transposes_S8x127x32x4x64_S8x127x4x32x64_0_1_3_2_4)
      shapeCasts_S8x127x4x32x64_S8x127x4x2048) (shapeCast _ w1 shapeCasts_S1x2048x256_S2048x256)

/-- The activation and the second layer. -/
def second (H : FVec Ideal S8x127x4x256 .f32) (w2 : FVec Ideal S1x256x64 .f32) : FVec Ideal S8x127x4x64 .bf16 :=
  truncf .bf16 (Host.dotGeneral dot_S8x127x4x256_S256x64_S8x127x4x64_3_0_012_1_n_n none
    (mulf H (mulf (broadcastInDim S8x127x4x256 ![] bcast_S_S8x127x4x256 (constant S_ .f32 0x3F000000#32))
      (addf (broadcastInDim S8x127x4x256 ![] bcast_S_S8x127x4x256 (constant S_ .f32 0x3F800000#32))
        (Host.tanh (mulf (broadcastInDim S8x127x4x256 ![] bcast_S_S8x127x4x256 (constant S_ .f32 0x3F4C422A#32))
          (addf H (mulf (broadcastInDim S8x127x4x256 ![] bcast_S_S8x127x4x256 (constant S_ .f32 0x3D372713#32)) (mulf (mulf H H) H))))))))
    (shapeCast _ w2 shapeCasts_S1x256x64_S256x64)) bitsLt_bf16_f32

/-- One result of the reference. -/
def comp (T : IVec S127x32 32) (kv : FVec Ideal S8x2048x256 .f32) (pe : FVec Ideal S1x32x64 .f32) (w1 : FVec Ideal S1x2048x256 .f32)
    (w2 : FVec Ideal S1x256x64 .f32) : FVec Ideal S8x127x4x64 .bf16 :=
  second (first (blocks T kv pe) w1) w2

/-! ## The two tables of tokens: block `i`'s token `l` is `16 i + l` -/

def tab0 : IVec S127x32 32 := fun i => lit0 (S127x32.rowMajor i)
def tab1 : IVec S127x32 32 := fun i => lit1 (S127x32.rowMajor i)

/-- A table of the blocks' tokens. -/
def IsToks (T : IVec S127x32 32) : Prop := ∀ (i : Fin 127) (l : Fin 32), T (ix2 i l) = BitVec.ofNat 32 (i.val * 16 + l.val)

theorem tab0_toks : IsToks tab0 := by
  unfold IsToks tab0
  decide +kernel
theorem tab1_toks : IsToks tab1 := by
  unfold IsToks tab1
  decide +kernel

/-! ## Their values at an index -/

theorem toks_at (T : IVec S127x32 32) (i : Fin 127) (l : Fin 32) : toks T (ix3 i l 0) = T (ix2 i l) := by
  pointwise [toks]

/-- The gather's dimension numbers: the second axis of the operand is the one a start index moves on. -/
abbrev G : GatherDims S8x2048x4x64 S127x32x1 S8x127x32x4x64 := gather_S8x2048x4x64_S127x32x1_S8x127x32x4x64_034_1_n_n_1_2_81464

theorem siIdx_at (b : Fin 8) (i : Fin 127) (l : Fin 32) (g : Fin 4) (d : Fin 64) :
    G.siIdx (ix5 b i l g d) ⟨0, by decide⟩ = ix3 i l 0 := by
  funext a
  refine Fin.ext ?_
  match a with
  | ⟨0, _⟩ => rfl
  | ⟨1, _⟩ => rfl
  | ⟨2, _⟩ => rfl

/-- The gather at an index: the token its start index names. -/
theorem gather_at (x : FVec Ideal S8x2048x4x64 .f32) (I : IVec S127x32x1 32) (b : Fin 8) (i : Fin 127) (l : Fin 32) (g : Fin 4) (d : Fin 64)
    (k : Fin 2048) (h : I (ix3 i l 0) = BitVec.ofNat 32 k.val) :
    Host.gather G x I (ix5 b i l g d) = x (ix4 b k g d) := by
  have s0 : G.start (ix5 b i l g d) I 0 = 0 := rfl
  have s1 : G.start (ix5 b i l g d) I 1 = k.val := by
    have e : G.start (ix5 b i l g d) I 1 = min (I (G.siIdx (ix5 b i l g d) ⟨0, by decide⟩)).toInt.toNat 2047 := rfl
    rw [e, siIdx_at, h, BitVec.toInt_eq_toNat_of_lt (by rw [BitVec.toNat_ofNat]; omega), BitVec.toNat_ofNat]
    omega
  have s2 : G.start (ix5 b i l g d) I 2 = 0 := rfl
  have s3 : G.start (ix5 b i l g d) I 3 = 0 := rfl
  have b0 : ∀ a, G.batchCoord (ix5 b i l g d) a = 0 := fun a => G.batchCoord_eq_zero _ _ List.not_mem_nil
  have o0 : G.offCoord (ix5 b i l g d) 0 = b.val := rfl
  have o1 : G.offCoord (ix5 b i l g d) 1 = 0 := rfl
  have o2 : G.offCoord (ix5 b i l g d) 2 = g.val := rfl
  have o3 : G.offCoord (ix5 b i l g d) 3 = d.val := rfl
  unfold Host.gather
  refine congrArg x (funext fun a => Fin.ext ?_)
  show G.start (ix5 b i l g d) I a + G.batchCoord (ix5 b i l g d) a + G.offCoord (ix5 b i l g d) a = _
  rw [b0]
  match a with
  | ⟨0, _⟩ => exact (congrArg₂ (fun p q => p + 0 + q) s0 o0).trans (Nat.zero_add _)
  | ⟨1, _⟩ => exact congrArg₂ (fun p q => p + 0 + q) s1 o1
  | ⟨2, _⟩ => exact (congrArg₂ (fun p q => p + 0 + q) s2 o2).trans (Nat.zero_add _)
  | ⟨3, _⟩ => exact (congrArg₂ (fun p q => p + 0 + q) s3 o3).trans (Nat.zero_add _)

theorem second_at (H : FVec Ideal S8x127x4x256 .f32) (w2 : FVec Ideal S1x256x64 .f32) (b : Fin 8) (n : Fin 127) (g : Fin 4) (e : Fin 64) :
    second H w2 (ix4 b n g e) = ∑ h : Fin 256, gelu (H (ix4 b n g h)) * w2 (ix3 0 h e) := by
  pointwise [second, gelu]
  exact Finset.sum_congr rfl fun h _ => by rw [mul_assoc (H (ix4 b n g h)) (H (ix4 b n g h)) (H (ix4 b n g h))]

theorem first_at (B : FVec Ideal S8x127x32x4x64 .f32) (w1 : FVec Ideal S1x2048x256 .f32) (b : Fin 8) (n : Fin 127) (g : Fin 4) (h : Fin 256) :
    first B w1 (ix4 b n g h) = ∑ K : Fin 2048, B (ix5 b n ⟨K.val / 64, by omega⟩ g ⟨K.val % 64, by omega⟩) * w1 (ix3 0 K h) := by
  pointwise [first]

theorem blocks_at (T : IVec S127x32 32) (hT : IsToks T) (kv : FVec Ideal S8x2048x256 .f32) (pe : FVec Ideal S1x32x64 .f32)
    (b : Fin 8) (n : Fin 127) (l : Fin 32) (g : Fin 4) (d : Fin 64) :
    blocks T kv pe (ix5 b n l g d) = kv (ix3 b ⟨n.val * 16 + l.val, by omega⟩ ⟨g.val * 64 + d.val, by omega⟩) + pe (ix3 0 l d) := by
  have e := gather_at (shapeCast _ kv shapeCasts_S8x2048x256_S8x2048x4x64) (toks T) b n l g d ⟨n.val * 16 + l.val, by omega⟩
    ((toks_at T n l).trans (hT n l))
  pointwise [blocks, e]

/-- Two terms of the first layer's sum whose indices have the same values. -/
theorem term_congr (kv : FVec Ideal S8x2048x256 .f32) (pe : FVec Ideal S1x32x64 .f32) (w1 : FVec Ideal S1x2048x256 .f32) (b : Fin 8) (h : Fin 256)
    {t t' : Fin 2048} {j j' : Fin 256} {l l' : Fin 32} {d d' : Fin 64} {K K' : Fin 2048} (ht : t.val = t'.val) (hj : j.val = j'.val)
    (hl : l.val = l'.val) (hd : d.val = d'.val) (hK : K.val = K'.val) :
    (kv (ix3 b t j) + pe (ix3 0 l d)) * w1 (ix3 0 K h) = (kv (ix3 b t' j') + pe (ix3 0 l' d')) * w1 (ix3 0 K' h) := by
  rw [Fin.ext ht, Fin.ext hj, Fin.ext hl, Fin.ext hd, Fin.ext hK]

theorem first_blocks (T : IVec S127x32 32) (hT : IsToks T) (kv : FVec Ideal S8x2048x256 .f32) (pe : FVec Ideal S1x32x64 .f32)
    (w1 : FVec Ideal S1x2048x256 .f32) (b : Fin 8) (n : Fin 127) (g : Fin 4) (h : Fin 256) :
    first (blocks T kv pe) w1 (ix4 b n g h) = cell kv pe w1 b n g h := by
  rw [first_at, sum_halves 1024 1024 rfl, sum_split 16 64 rfl, sum_split 16 64 rfl]
  unfold cell
  refine congrArg₂ (· + ·) (Finset.sum_congr rfl fun l _ => Finset.sum_congr rfl fun d _ => ?_)
    (Finset.sum_congr rfl fun l _ => Finset.sum_congr rfl fun d _ => ?_)
  · rw [blocks_at T hT]
    exact term_congr kv pe w1 b h (by dsimp only; omega) (by dsimp only; omega) (by dsimp only; omega) (by dsimp only; omega) (by dsimp only <;> omega)
  · rw [blocks_at T hT]
    exact term_congr kv pe w1 b h (by dsimp only; omega) (by dsimp only; omega) (by dsimp only; omega) (by dsimp only; omega) (by dsimp only <;> omega)

/-- One result of the reference at an index. -/
theorem comp_at (T : IVec S127x32 32) (hT : IsToks T) (kv : FVec Ideal S8x2048x256 .f32) (pe : FVec Ideal S1x32x64 .f32)
    (w1 : FVec Ideal S1x2048x256 .f32) (w2 : FVec Ideal S1x256x64 .f32) (b : Fin 8) (n : Fin 127) (g : Fin 4) (e : Fin 64) :
    comp T kv pe w1 w2 (ix4 b n g e) = out kv pe w1 w2 b n g e := by
  unfold comp out
  rw [second_at]
  exact Finset.sum_congr rfl fun h _ => by rw [first_blocks T hT]

end Cert.Reference4Ideal.Term

end
-- ==== Proof.Cmp.lean ====
/-
  The compression's value: what the kernel leaves in its two results is the reference's composed terms of the same eight
  arguments, at `Ideal`.

  One grid point is one batch row. Its scratch holds block `n` of head `g` in row `128 g + n`, the tokens' keys and
  values side by side; the first layer's weights are block diagonal, so of each sum over 2048 lanes the 1024 of the other
  kind vanish, and the row after (found by a rotation) supplies the block's second 16 tokens. The second layer's weight
  is block diagonal as well: lanes 0 … 63 are the keys', 64 … 127 the values'.
-/
module

public import proofs.«01_k».proof.Proof.CmpHost
public import proofs.«01_k».proof.Proof.CmpRef
public import proofs.«01_k».proof.Proof.Gen.Kernel4

@[expose] public section

set_option maxRecDepth 65536

noncomputable section

open Idealize.ShloMosaic Idealize.ShloMosaic.TcCoe Idealize.SL.Sem
open Idealize.ShloMosaic.Pipeline (Dat)
open Cert.Reference4Ideal.Term (cell out sum_split sum_halves comp comp_at term_congr tab0 tab1 tab0_toks tab1_toks)

namespace Cert.Kernel4Ideal.Cmp

open Cert.Kernel4Ideal Cert.Kernel4Ideal.Gen

/-! ## A sum over the scratch's lanes, against a block-diagonal weight -/

/-- The columns of the keys: the lanes of the values vanish. -/
theorem half_k (x : FVec Ideal S512x2048 .f32) (p : FVec Ideal S2x2048 .f32) (w : FVec Ideal S2048x512 .bf16) (r h : Fin 512) (i : Fin 2)
    (f : Fin 16 → Fin 64 → EReal)
    (hx : ∀ (l : Fin 16) (d : Fin 64), (x (ix2 r ⟨l.val * 128 + d.val, by omega⟩) + p (ix2 i ⟨l.val * 128 + d.val, by omega⟩)) * w (ix2 ⟨l.val * 128 + d.val, by omega⟩ h) = f l d)
    (hz : ∀ (l : Fin 16) (d : Fin 64), w (ix2 ⟨l.val * 128 + (64 + d.val), by omega⟩ h) = 0) :
    ∑ k : Fin 2048, (x (ix2 r k) + p (ix2 i k)) * w (ix2 k h) = ∑ l, ∑ d, f l d := by
  rw [sum_split 16 128 rfl]
  refine Finset.sum_congr rfl fun l _ => ?_
  rw [sum_halves 64 64 rfl]
  exact (congrArg₂ (· + ·) (Finset.sum_congr rfl fun d _ => hx l d)
    (Finset.sum_eq_zero fun d _ => (congrArg (_ * ·) (hz l d)).trans (mul_zero _))).trans (add_zero _)

/-- The columns of the values: the lanes of the keys vanish. -/
theorem half_v (x : FVec Ideal S512x2048 .f32) (p : FVec Ideal S2x2048 .f32) (w : FVec Ideal S2048x512 .bf16) (r h : Fin 512) (i : Fin 2)
    (f : Fin 16 → Fin 64 → EReal)
    (hx : ∀ (l : Fin 16) (d : Fin 64), (x (ix2 r ⟨l.val * 128 + (64 + d.val), by omega⟩) + p (ix2 i ⟨l.val * 128 + (64 + d.val), by omega⟩)) * w (ix2 ⟨l.val * 128 + (64 + d.val), by omega⟩ h) = f l d)
    (hz : ∀ (l : Fin 16) (d : Fin 64), w (ix2 ⟨l.val * 128 + d.val, by omega⟩ h) = 0) :
    ∑ k : Fin 2048, (x (ix2 r k) + p (ix2 i k)) * w (ix2 k h) = ∑ l, ∑ d, f l d := by
  rw [sum_split 16 128 rfl]
  refine Finset.sum_congr rfl fun l _ => ?_
  rw [sum_halves 64 64 rfl]
  exact (congrArg₂ (· + ·) (Finset.sum_eq_zero fun d _ => (congrArg (_ * ·) (hz l d)).trans (mul_zero _))
    (Finset.sum_congr rfl fun d _ => hx l d)).trans (zero_add _)

variable (m : (ℓ : Loc nD τ sig) → Buf (Elt Ideal) ℓ)

/-- The batch row of a point. -/
def bat (t : Fin cfg0.N) : Fin 8 := ⟨t.val, lt8 t⟩

/-- The scratch's lanes of the keys, at token `T` of the row. -/
theorem rows_k (c : Dev nD) (t : Fin cfg0.N) (g : Fin 4) (n : Fin 128) (l : Fin 16) (d : Fin 64) (R : Fin 512) (hR : R.val = g.val * 128 + n.val)
    (T : Fin 2048) (hT : T.val = n.val * 16 + l.val) :
    rows m c t (ix2 R ⟨l.val * 128 + d.val, by omega⟩) = argK m c (ix3 (bat t) T ⟨g.val * 64 + d.val, by omega⟩) := by
  refine (rows_at m c t g n l ⟨d.val, by omega⟩ R ⟨l.val * 128 + d.val, by omega⟩ hR rfl).trans ((pair_k _ _ _ g d).trans ?_)
  refine congrArg (argK m c) (ix3_ext ?_ ?_ rfl)
  · show (t.val * 2048 + (n.val * 16 + l.val)) / 2048 = t.val; omega
  · show (t.val * 2048 + (n.val * 16 + l.val)) % 2048 = T.val; omega
/-- The scratch's lanes of the values. -/
theorem rows_v (c : Dev nD) (t : Fin cfg0.N) (g : Fin 4) (n : Fin 128) (l : Fin 16) (d : Fin 64) (R : Fin 512) (hR : R.val = g.val * 128 + n.val)
    (T : Fin 2048) (hT : T.val = n.val * 16 + l.val) :
    rows m c t (ix2 R ⟨l.val * 128 + (64 + d.val), by omega⟩) = argV m c (ix3 (bat t) T ⟨g.val * 64 + d.val, by omega⟩) := by
  refine (rows_at m c t g n l ⟨64 + d.val, by omega⟩ R ⟨l.val * 128 + (64 + d.val), by omega⟩ hR rfl).trans ((pair_v _ _ _ g d).trans ?_)
  refine congrArg (argV m c) (ix3_ext ?_ ?_ rfl)
  · show (t.val * 2048 + (n.val * 16 + l.val)) / 2048 = t.val; omega
  · show (t.val * 2048 + (n.val * 16 + l.val)) % 2048 = T.val; omega

/-- The first layer that a point computes. -/
abbrev layer (c : Dev nD) (t : Fin cfg0.N) : FVec Ideal S512x512 .f32 :=
  hid (rows m c t) (pes (argPk m c) (argPv m c)) (diag (part0 (argAk m c)) (part0 (argAv m c))) (diag (part1 (argAk m c)) (part1 (argAv m c)))

/-- It is the reference's hidden cell, in the keys' columns. -/
theorem layer_k (c : Dev nD) (t : Fin cfg0.N) (g : Fin 4) (n : Fin 127) (h : Fin 256) (R : Fin 512) (hR : R.val = g.val * 128 + n.val) :
    layer m c t (ix2 R ⟨h.val, by omega⟩) = cell (argK m c) (argPk m c) (argAk m c) (bat t) n g h := by
  refine (hid_at _ _ _ _ _ _).trans (congrArg₂ (· + ·) (half_k _ _ _ _ _ _ _ (fun l d => ?_) fun l d => diag_vk _ _ _ _ _)
    (half_k _ _ _ _ _ _ _ (fun l d => ?_) fun l d => diag_vk _ _ _ _ _))
  · rw [rows_k m c t g ⟨n.val, by omega⟩ l d R hR ⟨n.val * 16 + l.val, by omega⟩ rfl, pes_k, diag_kk, part0_at]
    exact term_congr _ _ _ _ _ rfl rfl (by simp) rfl rfl
  · rw [rows_k m c t g ⟨n.val + 1, by omega⟩ l d _ (by show (R.val + 512 - 511) % 512 = g.val * 128 + (n.val + 1); omega)
      ⟨n.val * 16 + 16 + l.val, by omega⟩ (by show n.val * 16 + 16 + l.val = (n.val + 1) * 16 + l.val; omega), pes_k, diag_kk, part1_at]
    exact term_congr _ _ _ _ _ rfl rfl (by simp) rfl (by dsimp only; omega)

/-- And in the values' columns. -/
theorem layer_v (c : Dev nD) (t : Fin cfg0.N) (g : Fin 4) (n : Fin 127) (h : Fin 256) (R : Fin 512) (hR : R.val = g.val * 128 + n.val) :
    layer m c t (ix2 R ⟨256 + h.val, by omega⟩) = cell (argV m c) (argPv m c) (argAv m c) (bat t) n g h := by
  refine (hid_at _ _ _ _ _ _).trans (congrArg₂ (· + ·) (half_v _ _ _ _ _ _ _ (fun l d => ?_) fun l d => diag_kv _ _ _ _ _)
    (half_v _ _ _ _ _ _ _ (fun l d => ?_) fun l d => diag_kv _ _ _ _ _))
  · rw [rows_v m c t g ⟨n.val, by omega⟩ l d R hR ⟨n.val * 16 + l.val, by omega⟩ rfl, pes_v, diag_vv, part0_at]
    exact term_congr _ _ _ _ _ rfl rfl (by simp) rfl rfl
  · rw [rows_v m c t g ⟨n.val + 1, by omega⟩ l d _ (by show (R.val + 512 - 511) % 512 = g.val * 128 + (n.val + 1); omega)
      ⟨n.val * 16 + 16 + l.val, by omega⟩ (by show n.val * 16 + 16 + l.val = (n.val + 1) * 16 + l.val; omega), pes_v, diag_vv, part1_at]
    exact term_congr _ _ _ _ _ rfl rfl (by simp) rfl (by dsimp only; omega)

/-- Both layers at a point, at the lanes of the keys. -/
theorem both_k (c : Dev nD) (t : Fin cfg0.N) (g : Fin 4) (n : Fin 127) (e : Fin 64) (R : Fin 512) (hR : R.val = g.val * 128 + n.val) :
    both (rows m c t) (iblk m c 4 t) (iblk m c 5 t) (iblk m c 6 t) (iblk m c 7 t) (ix2 R ⟨e.val, by omega⟩)
      = out (argK m c) (argPk m c) (argAk m c) (argBk m c) (bat t) n g e := by
  rw [b4, b5, b6, b7]
  refine (both_at _ _ _ _ _ _ _).trans ?_
  rw [sum_halves 256 256 rfl]
  exact (congrArg₂ (· + ·) (Finset.sum_congr rfl fun h _ => congrArg₂ (fun p q => gelu p * q) (layer_k m c t g n h R hR) (diag2_kk _ _ _ _))
    (Finset.sum_eq_zero fun h _ => (congrArg (_ * ·) (diag2_vk _ _ _ _)).trans (mul_zero _))).trans (add_zero _)
/-- The same at the values' lanes. -/
theorem both_v (c : Dev nD) (t : Fin cfg0.N) (g : Fin 4) (n : Fin 127) (e : Fin 64) (R : Fin 512) (hR : R.val = g.val * 128 + n.val) :
    both (rows m c t) (iblk m c 4 t) (iblk m c 5 t) (iblk m c 6 t) (iblk m c 7 t) (ix2 R ⟨64 + e.val, by omega⟩)
      = out (argV m c) (argPv m c) (argAv m c) (argBv m c) (bat t) n g e := by
  rw [b4, b5, b6, b7]
  refine (both_at _ _ _ _ _ _ _).trans ?_
  rw [sum_halves 256 256 rfl]
  exact (congrArg₂ (· + ·) (Finset.sum_eq_zero fun h _ => (congrArg (_ * ·) (diag2_kv _ _ _ _)).trans (mul_zero _))
    (Finset.sum_congr rfl fun h _ => congrArg₂ (fun p q => gelu p * q) (layer_v m c t g n h R hR) (diag2_vv _ _ _ _))).trans (zero_add _)

/-! ## The two result arrays, and what @main makes of them -/

/-- The point whose block holds a batch row. -/
def pt (b : Nat) : Fin cfg0.N := ⟨b % 8, by have h' : cfg0.N = 8 := N_0; omega⟩

/-- Where a point's keys' block lies. -/
theorem emb9 (t : Fin cfg0.N) (r : Fin 512) (l : Fin 128) :
    ((cfg0.win 9).blk t).view.emb (ix2 r l) = (ix2 ⟨t.val * 512 + r.val, by have := lt8 t; omega⟩ l : S4096x128.Idx) := by
  blk_ext [idx t]
/-- Where its values' block lies. -/
theorem emb10 (t : Fin cfg0.N) (r : Fin 256) (l : Fin 128) :
    ((cfg0.win 10).blk t).view.emb (ix2 r l) = (ix2 ⟨t.val * 256 + r.val, by have := lt8 t; omega⟩ l : S2048x128.Idx) := by
  blk_ext [idx t]

/-- The keys' array, block by block. -/
def arr9 (c : Dev nD) : FVec Ideal S4096x128 .bf16 := fun y => (outsAt0 m c (pt ((y 0).val / 512))).1 (ix2 ⟨(y 0).val % 512, by omega⟩ ⟨(y 1).val, (y 1).isLt⟩)
/-- The values' array, block by block. -/
def arr10 (c : Dev nD) : FVec Ideal S2048x128 .bf16 := fun y => (outsAt0 m c (pt ((y 0).val / 256))).2 (ix2 ⟨(y 0).val % 256, by omega⟩ ⟨(y 1).val, (y 1).isLt⟩)

/-- The keys' array at an index. -/
theorem arr9_at (c : Dev nD) (t : Fin cfg0.N) (R : Fin 4096) (r : Fin 512) (l : Fin 128) (hR : R.val = t.val * 512 + r.val) :
    arr9 m c (ix2 R l) = (outsAt0 m c t).1 (ix2 r l) := by
  have ht : pt (R.val / 512) = t := Fin.ext (by have := lt8 t; show R.val / 512 % 8 = t.val; omega)
  show (outsAt0 m c (pt (R.val / 512))).1 (ix2 ⟨R.val % 512, _⟩ ⟨l.val, _⟩) = _
  rw [ht]
  exact congrArg (outsAt0 m c t).1 (ix2_ext (by show R.val % 512 = r.val; omega) rfl)
/-- The values' array at an index. -/
theorem arr10_at (c : Dev nD) (t : Fin cfg0.N) (R : Fin 2048) (r : Fin 256) (l : Fin 128) (hR : R.val = t.val * 256 + r.val) :
    arr10 m c (ix2 R l) = (outsAt0 m c t).2 (ix2 r l) := by
  have ht : pt (R.val / 256) = t := Fin.ext (by have := lt8 t; show R.val / 256 % 8 = t.val; omega)
  show (outsAt0 m c (pt (R.val / 256))).2 (ix2 ⟨R.val % 256, _⟩ ⟨l.val, _⟩) = _
  rw [ht]
  exact congrArg (outsAt0 m c t).2 (ix2_ext (by show R.val % 256 = r.val; omega) rfl)

/-- The run leaves the keys' array. -/
theorem final9 (c : Dev nD) : (dats m 0 c).arrAt 9 (cfgs 0).N = arr9 m c := by
  refine (dats m 0 c).arrAt_eq_of_covers 9 _ (by decide +kernel) fun t _ y => ?_
  blk_simp
  rw [after0_9]
  idx_vars y
  rw [emb9]
  exact (arr9_at m c t _ y0 y1 rfl).symm
/-- The run leaves the values' array. -/
theorem final10 (c : Dev nD) : (dats m 0 c).arrAt 10 (cfgs 0).N = arr10 m c := by
  refine (dats m 0 c).arrAt_eq_of_covers 10 _ (by decide +kernel) fun t _ y => ?_
  blk_simp
  rw [after0_10]
  idx_vars y
  rw [emb10]
  exact (arr10_at m c t _ y0 y1 rfl).symm

/-- What @main does with the keys' array: the rows and lanes that hold keys. -/
def cutK (a : FVec Ideal S4096x128 .bf16) : FVec Ideal S8x127x4x64 .bf16 :=
  transpose S8x127x4x64 [0, 2, 1, 3] (extractStridedSlice S8x4x127x64 ![0, 0, 0, 0] (shapeCast S8x4x128x128 a shapeCasts_S4096x128_S8x4x128x128)
    slices_S8x4x128x128_S8x4x127x64_0_0_0_0) transposes_S8x4x127x64_S8x127x4x64_0_2_1_3
/-- The values' columns. -/
def cutV (a : FVec Ideal S2048x128 .bf16) : FVec Ideal S8x127x4x64 .bf16 :=
  transpose S8x127x4x64 [0, 3, 1, 2] (extractStridedSlice S8x4x64x127 ![0, 0, 0, 0] (shapeCast S8x4x64x128 a shapeCasts_S2048x128_S8x4x64x128)
    slices_S8x4x64x128_S8x4x64x127_0_0_0_0) transposes_S8x4x64x127_S8x127x4x64_0_3_1_2

/-- At an index. -/
theorem cutK_at (a : FVec Ideal S4096x128 .bf16) (b : Fin 8) (n : Fin 127) (g : Fin 4) (e : Fin 64) :
    cutK a (ix4 b n g e) = a (ix2 ⟨b.val * 512 + g.val * 128 + n.val, by omega⟩ ⟨e.val, by omega⟩) := by
  pointwise [cutK]
/-- At an index. -/
theorem cutV_at (a : FVec Ideal S2048x128 .bf16) (b : Fin 8) (n : Fin 127) (g : Fin 4) (e : Fin 64) :
    cutV a (ix4 b n g e) = a (ix2 ⟨b.val * 256 + g.val * 64 + e.val, by omega⟩ ⟨n.val, by omega⟩) := by
  pointwise [cutV]

/-- A batch row's point has that batch row. -/
theorem bat_pt (b : Fin 8) : bat (pt b.val) = b := Fin.ext (by show b.val % 8 = b.val; omega)

/-- The kernel's keys are the reference's term. -/
theorem result_k (c : Dev nD) : cutK (arr9 m c) = comp tab0 (argK m c) (argPk m c) (argAk m c) (argBk m c) := by
  funext y
  idx_vars y
  rw [cutK_at, comp_at _ tab0_toks, arr9_at m c (pt y0.val) _ ⟨y2.val * 128 + y1.val, by omega⟩ _
    (by show y0.val * 512 + y2.val * 128 + y1.val = y0.val % 8 * 512 + (y2.val * 128 + y1.val); omega), block9 _ _ _ _ _ y3.isLt,
    both_k m c (pt y0.val) y2 y1 y3 _ rfl, bat_pt]
/-- The same of the values. -/
theorem result_v (c : Dev nD) : cutV (arr10 m c) = comp tab1 (argV m c) (argPv m c) (argAv m c) (argBv m c) := by
  funext y
  idx_vars y
  rw [cutV_at, comp_at _ tab1_toks, arr10_at m c (pt y0.val) _ ⟨y2.val * 64 + y3.val, by omega⟩ _
    (by show y0.val * 256 + y2.val * 64 + y3.val = y0.val % 8 * 256 + (y2.val * 64 + y3.val); omega), block10]
  refine Eq.trans ?_ ((both_v m c (pt y0.val) y2 y1 y3 ⟨y2.val * 128 + y1.val, by omega⟩ rfl).trans (by rw [bat_pt]))
  refine congrArg (both _ _ _ _ _) (ix2_ext ?_ ?_)
  · show (y2.val * 64 + y3.val) / 64 * 128 + y1.val = y2.val * 128 + y1.val; omega
  · show 64 + (y2.val * 64 + y3.val) % 64 = 64 + y3.val; omega

/-! ## The claims -/

/-- The reference's first result is its composed term. -/
theorem ref_k (m' : (ℓ : Loc Cert.Reference4Ideal.nD Cert.Reference4Ideal.τ Cert.Reference4Ideal.sig) → Buf (Elt Ideal) ℓ) (c : Dev Cert.Reference4Ideal.nD) :
    Cert.Reference4Ideal.Value.res_out0 m' c = comp tab0 (m' ((c.tc : Thread _ _).loc Cert.Reference4Ideal.main_arg0))
      (m' ((c.tc : Thread _ _).loc Cert.Reference4Ideal.main_arg2)) (m' ((c.tc : Thread _ _).loc Cert.Reference4Ideal.main_arg3))
      (m' ((c.tc : Thread _ _).loc Cert.Reference4Ideal.main_arg4)) := rfl
/-- So is its second. -/
theorem ref_v (m' : (ℓ : Loc Cert.Reference4Ideal.nD Cert.Reference4Ideal.τ Cert.Reference4Ideal.sig) → Buf (Elt Ideal) ℓ) (c : Dev Cert.Reference4Ideal.nD) :
    Cert.Reference4Ideal.Value.res_out1 m' c = comp tab1 (m' ((c.tc : Thread _ _).loc Cert.Reference4Ideal.main_arg1))
      (m' ((c.tc : Thread _ _).loc Cert.Reference4Ideal.main_arg5)) (m' ((c.tc : Thread _ _).loc Cert.Reference4Ideal.main_arg6))
      (m' ((c.tc : Thread _ _).loc Cert.Reference4Ideal.main_arg7)) := rfl

/-- An array of the pipeline, where the lines after the region find it. -/
theorem after_arr (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt sharedIn0 (V0 m c) (A_eq m c) w

/-- What @main leaves of the keys' array. -/
theorem tail_k (c : Dev nD) : Pipeline.afterTail₀ cfgs (dats m) 0 (V0 m) [hostOps1] c main_v50 = cutK (arr9 m c) := by
  have h : Pipeline.withArrays cfg0.spec c (V0 m c) (fun w => (dats m 0 c).arrAt w cfg0.N) (Proc.devRef .tc main_v47_0) = arr9 m c :=
    (after_arr m c 9).trans (final9 m c)
  show StableHlo.after hostOps1 (Pipeline.withArrays cfg0.spec c (V0 m c) (fun w => (dats m 0 c).arrAt w cfg0.N)) (Proc.devRef .tc main_v50) = _
  generalize Pipeline.withArrays cfg0.spec c (V0 m c) (fun w => (dats m 0 c).arrAt w cfg0.N) = X at h
  unfold_abbrev_sides
  after_reads_simp
  rw [h]
  rfl
/-- What @main leaves of the values' array. -/
theorem tail_v (c : Dev nD) : Pipeline.afterTail₀ cfgs (dats m) 0 (V0 m) [hostOps1] c main_v53 = cutV (arr10 m c) := by
  have h : Pipeline.withArrays cfg0.spec c (V0 m c) (fun w => (dats m 0 c).arrAt w cfg0.N) (Proc.devRef .tc main_v47_1) = arr10 m c :=
    (after_arr m c 10).trans (final10 m c)
  show StableHlo.after hostOps1 (Pipeline.withArrays cfg0.spec c (V0 m c) (fun w => (dats m 0 c).arrAt w cfg0.N)) (Proc.devRef .tc main_v53) = _
  generalize Pipeline.withArrays cfg0.spec c (V0 m c) (fun w => (dats m 0 c).arrAt w cfg0.N) = X at h
  unfold_abbrev_sides
  after_reads_simp
  rw [h]
  rfl

/-- The two programs end at the same results, from memories that agree on the arguments. -/
theorem algebraic : Cert.algebraic_Kernel4Ideal_Reference4Ideal := by
  intro m g m' g' _ hagree
  refine ⟨fun c => comp tab0 (argK m c) (argPk m c) (argAk m c) (argBk m c), fun c => comp tab1 (argV m c) (argPv m c) (argAv m c) (argBv m c), ?_, ?_⟩
  · exact (θ_run Cert.Kernel4Ideal.defs _ _).mono (fun _ h c =>
      ⟨((h.1 c).2 main_v50 (by decide)).trans ((tail_k m c).trans (result_k m c)), ((h.1 c).2 main_v53 (by decide)).trans ((tail_v m c).trans (result_v m c)), h.2 c⟩)
      (θ_run_and (run_main m g) (unchanged m g))
  · refine (θ_run Cert.Reference4Ideal.defs _ _).mono (fun _ h c => ?_) (Cert.Reference4Ideal.Value.run m' g')
    obtain ⟨h0, h1, h2, h3, h4, h5, h6, h7⟩ := hagree c
    obtain ⟨r0, r1, rest⟩ := h c
    refine ⟨r0.trans ((ref_k m' c).trans ?_), r1.trans ((ref_v m' c).trans ?_), rest⟩
    · rw [h0, h2, h3, h4]; rfl
    · rw [h1, h5, h6, h7]; rfl

/-- The reference runs, its arguments kept; it has no counter. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The frame of the ideal text, at the bits. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- It is the claim about the program as written, the two programs being the same text. -/
theorem frameBits_eq : FrameBits = Cert.quiescent_Kernel4 := by chain_rfl

/-- The frame of the program as written: the run of its ideal text, taken at the bits. -/
theorem frame_kernel : Cert.quiescent_Kernel4 := frameBits_eq.mp fun m ρ _ => frame (F := Bits) m ρ

end Cert.Kernel4Ideal.Cmp

end
-- ==== Proof.lean ====
/-
  The claims. The attention call leaves its arguments as launched and every counter at zero, at the bits and at the
  ideal values alike. The output projection, the projection and the compression do so too, and their results are the
  references'.
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Same
public import proofs.«01_k».proof.Proof.Out
public import proofs.«01_k».proof.Proof.Proj
public import proofs.«01_k».proof.Proof.Cmp
public import Idealize.ShloMosaic.Adequacy
public import Idealize.ShloMosaic.Init

@[expose] public section

noncomputable section

namespace Cert.Proof

open Idealize.ShloMosaic Idealize.ShloMosaic.TcCoe Idealize.SL.Sem

/-- The reference of the output projection runs, its arguments kept; it has no counter. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Term.run m ρ)

/-- So does the reference of the projection. -/
theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Term.run m ρ)

theorem claim : Cert.Claim :=
  ⟨Cert.Kernel.Gen.facts, Cert.KernelIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts,
   Cert.Kernel4.Gen.facts, Cert.Kernel4Ideal.Gen.facts, Cert.Reference4Ideal.Gen.facts,
   frame_kernel, fun m ρ _ => Cert.KernelIdeal.Nsa.frame (F := Ideal) m ρ,
   fun m ρ _ => Cert.Kernel2.Gen.frame m ρ, fun m ρ _ => Cert.Kernel2Ideal.Gen.frame m ρ, frame_reference2,
   Cert.Kernel3Ideal.Proj.frame_kernel, fun m ρ _ => Cert.Kernel3Ideal.Proj.frame (F := Ideal) m ρ, frame_reference3,
   Cert.Kernel4Ideal.Cmp.frame_kernel, fun m ρ _ => Cert.Kernel4Ideal.Gen.frame (F := Ideal) m ρ,
   Cert.Kernel4Ideal.Cmp.frame_reference,
   trivial, trivial, Cert.Kernel2Ideal.Out.algebraic, trivial, Cert.Kernel3Ideal.Proj.algebraic,
   trivial, Cert.Kernel4Ideal.Cmp.algebraic⟩

end Cert.Proof

end
